-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S16x512x512 : Shape := ⟨3, ![16, 512, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x512x512 .f32) (main_arg1 : IVec S16x512x512 32) : IVec S_ 1 :=
  let main_c : IVec S_ 32 := constantI S_ 32 0#32
  let main_v0 : IVec S16x512x512 32 := broadcastInDim S16x512x512 ![] bcast_S_S16x512x512 main_c
  let main_v1 : IVec S16x512x512 1 := cmpi .eq main_arg1 main_v0
  let main_c_0 : IVec S_ 32 := constantI S_ 32 1#32
  let main_v2 : IVec S16x512x512 32 := broadcastInDim S16x512x512 ![] bcast_S_S16x512x512 main_c_0
  let main_v3 : IVec S16x512x512 1 := cmpi .eq main_arg1 main_v2
  let main_v4 : IVec S16x512x512 1 := ori main_v1 main_v3
  let main_c_1 : IVec S_ 1 := constantI S_ 1 1#1
  let main_v5 : IVec S_ 1 := (fun x v => Host.reduce IntOp.andi x v reducesTo_S16x512x512_S_d0_1_2 h_S_) main_v4 main_c_1
  main_v5
-- ==== Kernel.lean ====
abbrev S16x512x512 : Shape := ⟨3, ![16, 512, 512]⟩
abbrev S4194304 : Shape := ⟨1, ![4194304]⟩
abbrev S32x65536 : Shape := ⟨2, ![32, 65536]⟩
abbrev S16384 : Shape := ⟨1, ![16384]⟩
abbrev S65536 : Shape := ⟨1, ![65536]⟩
abbrev S_ : Shape := ⟨0, ![]⟩
abbrev S16 : Shape := ⟨1, ![16]⟩
abbrev S1x65536 : Shape := ⟨2, ![1, 65536]⟩
abbrev S16384x128 : Shape := ⟨2, ![16384, 128]⟩
abbrev S1x1 : Shape := ⟨2, ![1, 1]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩
abbrev S256x256 : Shape := ⟨2, ![256, 256]⟩
abbrev S128x128 : Shape := ⟨2, ![128, 128]⟩

abbrev nBuf : Table → Nat
  | .hbm => 8
  | .local .tc .vmem => 5
  | .local .scVector .vmem => 3
  | _ => 0

abbrev bufTy : (tb : Table) → Fin (nBuf tb) → BufTy
  | .hbm, ⟨0, _⟩ => ⟨S16x512x512, .f32⟩
  | .hbm, ⟨1, _⟩ => ⟨S16x512x512, .i32⟩
  | .hbm, ⟨2, _⟩ => ⟨S4194304, .f32⟩
  | .hbm, ⟨3, _⟩ => ⟨S4194304, .i32⟩
  | .hbm, ⟨4, _⟩ => ⟨S32x65536, .f32⟩
  | .hbm, ⟨5, _⟩ => ⟨S16384x128, .f32⟩
  | .hbm, ⟨6, _⟩ => ⟨S1x1, .f32⟩
  | .hbm, ⟨7, _⟩ => ⟨S_, .f32⟩
  | .local .tc .vmem, ⟨0, _⟩ => ⟨S256x128, .f32⟩
  | .local .tc .vmem, ⟨1, _⟩ => ⟨S256x128, .f32⟩
  | .local .tc .vmem, ⟨2, _⟩ => ⟨S1x1, .f32⟩
  | .local .tc .vmem, ⟨3, _⟩ => ⟨S256x128, .f32⟩
  | .local .tc .vmem, ⟨4, _⟩ => ⟨S256x128, .f32⟩
  | .local .scVector .vmem, ⟨0, _⟩ => ⟨S16384, .f32⟩
  | .local .scVector .vmem, ⟨1, _⟩ => ⟨S16384, .i32⟩
  | .local .scVector .vmem, ⟨2, _⟩ => ⟨S65536, .f32⟩
  | _, _ => ⟨S16x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc1_scratch1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c4096_i32 : BitVec 32 := 4096#32
  let v5 : BitVec 32 := Scalar.addi c0_i32_1 c4096_i32
  let c1_i32 : BitVec 32 := 1#32
  ⟨c0_i32_1, v5, c1_i32⟩
def k0_off1 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c16_i32 : BitVec 32 := 16#32
  let v86 : BitVec 32 := Scalar.muli arg10 c16_i32
  let v87 : Index := Scalar.indexCast v86
  ![v87.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let v6 : BitVec 32 := Scalar.addi v2 c0_i32_3
  ![v6.toNat]
@[reducible] def k0_t2_loop : Scf.Loop 32 :=
  let c0_i32_5 : BitVec 32 := 0#32
  let c1024_i32 : BitVec 32 := 1024#32
  let v15 : BitVec 32 := Scalar.addi c0_i32_5 c1024_i32
  let c1_i32_6 : BitVec 32 := 1#32
  ⟨c0_i32_5, v15, c1_i32_6⟩
def k0_off3 (k0_t2 : Fin k0_t2_loop.trips) : Fin 1 → Nat :=
  let c0_i32_5 : BitVec 32 := 0#32
  let c1_i32_6 : BitVec 32 := 1#32
  let arg10 : BitVec 32 := Scf.iv c0_i32_5 c1_i32_6 k0_t2
  let c16_i32 : BitVec 32 := 16#32
  let v86 : BitVec 32 := Scalar.muli arg10 c16_i32
  let v87 : Index := Scalar.indexCast v86
  ![v87.toNat]

def k0_chk1 (v103 : IVec S16 32) : Prop :=
  (∀ a x, ((![v103] : Fin 1 → IVec S16 32) a x).toNat < S65536.size a)
theorem k0_idx1_inb : ∀ (v103 : IVec S16 32) (k0_hw1 : k0_chk1 v103), ∀ a x, ((![v103] : Fin 1 → IVec S16 32) a x).toNat < S65536.size a := fun v103 k0_hw1 => k0_hw1
@[reducible] def k0_t3_loop : Scf.Loop 32 :=
  let c0_i32_9 : BitVec 32 := 0#32
  let c1024_i32_10 : BitVec 32 := 1024#32
  let v25 : BitVec 32 := Scalar.addi c0_i32_9 c1024_i32_10
  let c1_i32_11 : BitVec 32 := 1#32
  ⟨c0_i32_9, v25, c1_i32_11⟩
def k0_off4 (k0_t3 : Fin k0_t3_loop.trips) : Fin 1 → Nat :=
  let c0_i32_9 : BitVec 32 := 0#32
  let c1_i32_11 : BitVec 32 := 1#32
  let arg10 : BitVec 32 := Scf.iv c0_i32_9 c1_i32_11 k0_t3
  let c16_i32 : BitVec 32 := 16#32
  let v86 : BitVec 32 := Scalar.muli arg10 c16_i32
  let v87 : Index := Scalar.indexCast v86
  ![v87.toNat]

def k0_chk2 (v103 : IVec S16 32) : Prop :=
  (∀ a x, ((![v103] : Fin 1 → IVec S16 32) a x).toNat < S65536.size a)
theorem k0_idx2_inb : ∀ (v103 : IVec S16 32) (k0_hw2 : k0_chk2 v103), ∀ a x, ((![v103] : Fin 1 → IVec S16 32) a x).toNat < S65536.size a := fun v103 k0_hw2 => k0_hw2
@[reducible] def k0_t4_loop : Scf.Loop 32 :=
  let c0_i32_14 : BitVec 32 := 0#32
  let c1024_i32_15 : BitVec 32 := 1024#32
  let v35 : BitVec 32 := Scalar.addi c0_i32_14 c1024_i32_15
  let c1_i32_16 : BitVec 32 := 1#32
  ⟨c0_i32_14, v35, c1_i32_16⟩
def k0_off5 (k0_t4 : Fin k0_t4_loop.trips) : Fin 1 → Nat :=
  let c0_i32_14 : BitVec 32 := 0#32
  let c1_i32_16 : BitVec 32 := 1#32
  let arg10 : BitVec 32 := Scf.iv c0_i32_14 c1_i32_16 k0_t4
  let c16_i32 : BitVec 32 := 16#32
  let v86 : BitVec 32 := Scalar.muli arg10 c16_i32
  let v87 : Index := Scalar.indexCast v86
  ![v87.toNat]

def k0_chk3 (v103 : IVec S16 32) : Prop :=
  (∀ a x, ((![v103] : Fin 1 → IVec S16 32) a x).toNat < S65536.size a)
theorem k0_idx3_inb : ∀ (v103 : IVec S16 32) (k0_hw3 : k0_chk3 v103), ∀ a x, ((![v103] : Fin 1 → IVec S16 32) a x).toNat < S65536.size a := fun v103 k0_hw3 => k0_hw3
@[reducible] def k0_t5_loop : Scf.Loop 32 :=
  let c0_i32_19 : BitVec 32 := 0#32
  let c1024_i32_20 : BitVec 32 := 1024#32
  let v45 : BitVec 32 := Scalar.addi c0_i32_19 c1024_i32_20
  let c1_i32_21 : BitVec 32 := 1#32
  ⟨c0_i32_19, v45, c1_i32_21⟩
def k0_off6 (k0_t5 : Fin k0_t5_loop.trips) : Fin 1 → Nat :=
  let c0_i32_19 : BitVec 32 := 0#32
  let c1_i32_21 : BitVec 32 := 1#32
  let arg10 : BitVec 32 := Scf.iv c0_i32_19 c1_i32_21 k0_t5
  let c16_i32 : BitVec 32 := 16#32
  let v86 : BitVec 32 := Scalar.muli arg10 c16_i32
  let v87 : Index := Scalar.indexCast v86
  ![v87.toNat]

def k0_chk4 (v103 : IVec S16 32) : Prop :=
  (∀ a x, ((![v103] : Fin 1 → IVec S16 32) a x).toNat < S65536.size a)
theorem k0_idx4_inb : ∀ (v103 : IVec S16 32) (k0_hw4 : k0_chk4 v103), ∀ a x, ((![v103] : Fin 1 → IVec S16 32) a x).toNat < S65536.size a := fun v103 k0_hw4 => k0_hw4
@[reducible] def k0_t6_loop : Scf.Loop 32 :=
  let c0_i32_24 : BitVec 32 := 0#32
  let c1024_i32_25 : BitVec 32 := 1024#32
  let v55 : BitVec 32 := Scalar.addi c0_i32_24 c1024_i32_25
  let c1_i32_26 : BitVec 32 := 1#32
  ⟨c0_i32_24, v55, c1_i32_26⟩
def k0_off7 (k0_t6 : Fin k0_t6_loop.trips) : Fin 1 → Nat :=
  let c0_i32_24 : BitVec 32 := 0#32
  let c1_i32_26 : BitVec 32 := 1#32
  let arg10 : BitVec 32 := Scf.iv c0_i32_24 c1_i32_26 k0_t6
  let c16_i32 : BitVec 32 := 16#32
  let v86 : BitVec 32 := Scalar.muli arg10 c16_i32
  let v87 : Index := Scalar.indexCast v86
  ![v87.toNat]

def k0_chk5 (v103 : IVec S16 32) : Prop :=
  (∀ a x, ((![v103] : Fin 1 → IVec S16 32) a x).toNat < S65536.size a)
theorem k0_idx5_inb : ∀ (v103 : IVec S16 32) (k0_hw5 : k0_chk5 v103), ∀ a x, ((![v103] : Fin 1 → IVec S16 32) a x).toNat < S65536.size a := fun v103 k0_hw5 => k0_hw5
@[reducible] def k0_t7_loop : Scf.Loop 32 :=
  let c0_i32_29 : BitVec 32 := 0#32
  let c1024_i32_30 : BitVec 32 := 1024#32
  let v65 : BitVec 32 := Scalar.addi c0_i32_29 c1024_i32_30
  let c1_i32_31 : BitVec 32 := 1#32
  ⟨c0_i32_29, v65, c1_i32_31⟩
def k0_off8 (k0_t7 : Fin k0_t7_loop.trips) : Fin 1 → Nat :=
  let c0_i32_29 : BitVec 32 := 0#32
  let c1_i32_31 : BitVec 32 := 1#32
  let arg10 : BitVec 32 := Scf.iv c0_i32_29 c1_i32_31 k0_t7
  let c16_i32 : BitVec 32 := 16#32
  let v86 : BitVec 32 := Scalar.muli arg10 c16_i32
  let v87 : Index := Scalar.indexCast v86
  ![v87.toNat]

def k0_chk6 (v103 : IVec S16 32) : Prop :=
  (∀ a x, ((![v103] : Fin 1 → IVec S16 32) a x).toNat < S65536.size a)
theorem k0_idx6_inb : ∀ (v103 : IVec S16 32) (k0_hw6 : k0_chk6 v103), ∀ a x, ((![v103] : Fin 1 → IVec S16 32) a x).toNat < S65536.size a := fun v103 k0_hw6 => k0_hw6
@[reducible] def k0_t8_loop : Scf.Loop 32 :=
  let c0_i32_34 : BitVec 32 := 0#32
  let c1024_i32_35 : BitVec 32 := 1024#32
  let v75 : BitVec 32 := Scalar.addi c0_i32_34 c1024_i32_35
  let c1_i32_36 : BitVec 32 := 1#32
  ⟨c0_i32_34, v75, c1_i32_36⟩
def k0_off9 (k0_t8 : Fin k0_t8_loop.trips) : Fin 1 → Nat :=
  let c0_i32_34 : BitVec 32 := 0#32
  let c1_i32_36 : BitVec 32 := 1#32
  let arg10 : BitVec 32 := Scf.iv c0_i32_34 c1_i32_36 k0_t8
  let c16_i32 : BitVec 32 := 16#32
  let v86 : BitVec 32 := Scalar.muli arg10 c16_i32
  let v87 : Index := Scalar.indexCast v86
  ![v87.toNat]

def k0_chk7 (v103 : IVec S16 32) : Prop :=
  (∀ a x, ((![v103] : Fin 1 → IVec S16 32) a x).toNat < S65536.size a)
theorem k0_idx7_inb : ∀ (v103 : IVec S16 32) (k0_hw7 : k0_chk7 v103), ∀ a x, ((![v103] : Fin 1 → IVec S16 32) a x).toNat < S65536.size a := fun v103 k0_hw7 => k0_hw7
@[reducible] def k0_t9_loop : Scf.Loop 32 :=
  let c0_i32_39 : BitVec 32 := 0#32
  let c1024_i32_40 : BitVec 32 := 1024#32
  let v85 : BitVec 32 := Scalar.addi c0_i32_39 c1024_i32_40
  let c1_i32_41 : BitVec 32 := 1#32
  ⟨c0_i32_39, v85, c1_i32_41⟩
def k0_off10 (k0_t9 : Fin k0_t9_loop.trips) : Fin 1 → Nat :=
  let c0_i32_39 : BitVec 32 := 0#32
  let c1_i32_41 : BitVec 32 := 1#32
  let arg10 : BitVec 32 := Scf.iv c0_i32_39 c1_i32_41 k0_t9
  let c16_i32 : BitVec 32 := 16#32
  let v86 : BitVec 32 := Scalar.muli arg10 c16_i32
  let v87 : Index := Scalar.indexCast v86
  ![v87.toNat]

def k0_chk8 (v103 : IVec S16 32) : Prop :=
  (∀ a x, ((![v103] : Fin 1 → IVec S16 32) a x).toNat < S65536.size a)
theorem k0_idx8_inb : ∀ (v103 : IVec S16 32) (k0_hw8 : k0_chk8 v103), ∀ a x, ((![v103] : Fin 1 → IVec S16 32) a x).toNat < S65536.size a := fun v103 k0_hw8 => k0_hw8
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_43_r0 : BitVec 32 := 0#32
  ![v1.toNat, 0]
abbrev grid1 : Pipeline.Grid := ⟨1, ![64], ![false]⟩

def k1_cond4 (i : grid1.Coords) : BitVec 1 :=
  let arg0 : BitVec 32 := BitVec.ofNat 32 (i 0).val
  let c63_i32 : BitVec 32 := 63#32
  let v31 : BitVec 1 := Scalar.cmpi .eq arg0 c63_i32
  let v32 : BitVec 32 := Scalar.extui v31
  let c0_i32_16 : BitVec 32 := 0#32
  let v33 : BitVec 1 := Scalar.cmpi .ne v32 c0_i32_16
  v33

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x512x512 : Shape := ⟨3, ![16, 512, 512]⟩
abbrev S_ : Shape := ⟨0, ![]⟩
abbrev S4194304 : Shape := ⟨1, ![4194304]⟩
abbrev S4194304x1 : Shape := ⟨2, ![4194304, 1]⟩
abbrev S1 : Shape := ⟨1, ![1]⟩
abbrev S4194303 : Shape := ⟨1, ![4194303]⟩

abbrev nBuf : Space → Nat
  | .hbm => 101
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x512x512, .i32⟩
  | .hbm, ⟨2, _⟩ => ⟨S_, .f32⟩
  | .hbm, ⟨3, _⟩ => ⟨S16x512x512, .f32⟩
  | .hbm, ⟨4, _⟩ => ⟨S16x512x512, .f32⟩
  | .hbm, ⟨5, _⟩ => ⟨S_, .f32⟩
  | .hbm, ⟨6, _⟩ => ⟨S16x512x512, .f32⟩
  | .hbm, ⟨7, _⟩ => ⟨S16x512x512, .f32⟩
  | .hbm, ⟨8, _⟩ => ⟨S16x512x512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16x512x512, .i32⟩
  | .hbm, ⟨13, _⟩ => ⟨S16x512x512, .i32⟩
  | .hbm, ⟨14, _⟩ => ⟨S_, .i32⟩
  | .hbm, ⟨15, _⟩ => ⟨S16x512x512, .i32⟩
  | .hbm, ⟨16, _⟩ => ⟨S16x512x512, .i32⟩
  | .hbm, ⟨17, _⟩ => ⟨S16x512x512, .f32⟩
  | .hbm, ⟨18, _⟩ => ⟨S_, .f32⟩
  | .hbm, ⟨19, _⟩ => ⟨S16x512x512, .f32⟩
  | .hbm, ⟨20, _⟩ => ⟨S16x512x512, .f32⟩
  | .hbm, ⟨21, _⟩ => ⟨S_, .f32⟩
  | .hbm, ⟨22, _⟩ => ⟨S16x512x512, .f32⟩
  | .hbm, ⟨23, _⟩ => ⟨S16x512x512, .f32⟩
  | .hbm, ⟨24, _⟩ => ⟨S_, .f32⟩
  | .hbm, ⟨25, _⟩ => ⟨S16x512x512, .f32⟩
  | .hbm, ⟨26, _⟩ => ⟨S16x512x512, .f32⟩
  | .hbm, ⟨27, _⟩ => ⟨S16x512x512, .f32⟩
  | .hbm, ⟨28, _⟩ => ⟨S16x512x512, .f32⟩
  | .hbm, ⟨29, _⟩ => ⟨S_, .f32⟩
  | .hbm, ⟨30, _⟩ => ⟨S16x512x512, .f32⟩
  | .hbm, ⟨31, _⟩ => ⟨S16x512x512, .f32⟩
  | .hbm, ⟨32, _⟩ => ⟨S_, .f32⟩
  | .hbm, ⟨33, _⟩ => ⟨S16x512x512, .f32⟩
  | .hbm, ⟨34, _⟩ => ⟨S16x512x512, .f32⟩
  | .hbm, ⟨35, _⟩ => ⟨S4194304, .f32⟩
  | .hbm, ⟨36, _⟩ => ⟨S4194304, .i32⟩
  | .hbm, ⟨37, _⟩ => ⟨S4194304, .f32⟩
  | .hbm, ⟨38, _⟩ => ⟨S_, .f32⟩
  | .hbm, ⟨39, _⟩ => ⟨S4194304, .f32⟩
  | .hbm, ⟨40, _⟩ => ⟨S4194304, .f32⟩
  | .hbm, ⟨41, _⟩ => ⟨S_, .f32⟩
  | .hbm, ⟨42, _⟩ => ⟨S4194304, .f32⟩
  | .hbm, ⟨43, _⟩ => ⟨S4194304, .f32⟩
  | .hbm, ⟨44, _⟩ => ⟨S4194304, .f32⟩
  | .hbm, ⟨45, _⟩ => ⟨S_, .f32⟩
  | .hbm, ⟨46, _⟩ => ⟨S4194304, .f32⟩
  | .hbm, ⟨47, _⟩ => ⟨S4194304, .f32⟩
  | .hbm, ⟨48, _⟩ => ⟨S4194304, .f32⟩
  | .hbm, ⟨49, _⟩ => ⟨S4194304, .i32⟩
  | .hbm, ⟨50, _⟩ => ⟨S4194304, .f32⟩
  | .hbm, ⟨51, _⟩ => ⟨S4194304, .i32⟩
  | .hbm, ⟨52, _⟩ => ⟨S_, .i32⟩
  | .hbm, ⟨53, _⟩ => ⟨S4194304, .i32⟩
  | .hbm, ⟨54, _⟩ => ⟨S4194304, .i1⟩
  | .hbm, ⟨55, _⟩ => ⟨S_, .i32⟩
  | .hbm, ⟨56, _⟩ => ⟨S4194304, .i32⟩
  | .hbm, ⟨57, _⟩ => ⟨S4194304, .i32⟩
  | .hbm, ⟨58, _⟩ => ⟨S4194304, .i32⟩
  | .hbm, ⟨59, _⟩ => ⟨S4194304x1, .i32⟩
  | .hbm, ⟨60, _⟩ => ⟨S4194304, .f32⟩
  | .hbm, ⟨61, _⟩ => ⟨S_, .i32⟩
  | .hbm, ⟨62, _⟩ => ⟨S4194304, .i32⟩
  | .hbm, ⟨63, _⟩ => ⟨S4194304, .i1⟩
  | .hbm, ⟨64, _⟩ => ⟨S_, .i32⟩
  | .hbm, ⟨65, _⟩ => ⟨S4194304, .i32⟩
  | .hbm, ⟨66, _⟩ => ⟨S4194304, .i32⟩
  | .hbm, ⟨67, _⟩ => ⟨S4194304, .i32⟩
  | .hbm, ⟨68, _⟩ => ⟨S4194304x1, .i32⟩
  | .hbm, ⟨69, _⟩ => ⟨S4194304, .i32⟩
  | .hbm, ⟨70, _⟩ => ⟨S4194304, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4194304, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S_, .f32⟩
  | .hbm, ⟨82, _⟩ => ⟨S_, .f32⟩
  | .hbm, ⟨83, _⟩ => ⟨S4194304, .f32⟩
  | .hbm, ⟨84, _⟩ => ⟨S4194304, .f32⟩
  | .hbm, ⟨85, _⟩ => ⟨S4194304, .f32⟩
  | .hbm, ⟨86, _⟩ => ⟨S4194304, .f32⟩
  | .hbm, ⟨87, _⟩ => ⟨S_, .f32⟩
  | .hbm, ⟨88, _⟩ => ⟨S4194304, .f32⟩
  | .hbm, ⟨89, _⟩ => ⟨S4194304, .f32⟩
  | .hbm, ⟨90, _⟩ => ⟨S1, .f32⟩
  | .hbm, ⟨91, _⟩ => ⟨S4194303, .f32⟩
  | .hbm, ⟨92, _⟩ => ⟨S4194303, .f32⟩
  | .hbm, ⟨93, _⟩ => ⟨S4194303, .f32⟩
  | .hbm, ⟨94, _⟩ => ⟨S4194304, .f32⟩
  | .hbm, ⟨95, _⟩ => ⟨S_, .f32⟩
  | .hbm, ⟨96, _⟩ => ⟨S4194304, .f32⟩
  | .hbm, ⟨97, _⟩ => ⟨S4194304, .f32⟩
  | .hbm, ⟨98, _⟩ => ⟨S4194304, .f32⟩
  | .hbm, ⟨99, _⟩ => ⟨S_, .f32⟩
  | .hbm, ⟨100, _⟩ => ⟨S_, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_v0 : Ref sig .tc := ⟨.hbm, 49, rfl⟩
abbrev main_call1_v1_0 : Ref sig .tc := ⟨.hbm, 50, rfl⟩
abbrev main_v30 : Ref sig .tc := ⟨.hbm, 51, rfl⟩
abbrev main_c_10 : Ref sig .tc := ⟨.hbm, 52, rfl⟩
abbrev main_v31 : Ref sig .tc := ⟨.hbm, 53, rfl⟩
abbrev main_v32 : Ref sig .tc := ⟨.hbm, 54, rfl⟩
abbrev main_c_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_v38 : Ref sig .tc := ⟨.hbm, 62, rfl⟩
abbrev main_v39 : Ref sig .tc := ⟨.hbm, 63, rfl⟩
abbrev main_c_13 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_call2_call0_cst : Ref sig .tc := ⟨.hbm, 73, rfl⟩
abbrev main_call2_call0_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_v51 : Ref sig .tc := ⟨.hbm, 80, rfl⟩
abbrev main_call3_call0_cst : Ref sig .tc := ⟨.hbm, 81, rfl⟩
abbrev main_call3_call0_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_16 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call4_cst : Ref sig .tc := ⟨.hbm, 95, rfl⟩
abbrev main_call4_v0 : Ref sig .tc := ⟨.hbm, 96, rfl⟩
abbrev main_v63 : Ref sig .tc := ⟨.hbm, 97, rfl⟩
abbrev main_v64 : Ref sig .tc := ⟨.hbm, 98, rfl⟩
abbrev main_cst_17 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== Proof.Base.lean ====
/-
  The set-up of the kernel's proof: the program as the SparseCore launch theorem sees it, the
  resource algebra, the buffers' names, and the contents of a task's histogram.

  Everything is stated for any float interpretation `F`: the frame reads it at machine floats, the
  value claim at extended reals.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Lovasz

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program with its one pipelined call. -/
abbrev ΛP : Labels := Pipeline.Sig Λ₀ (Fin 1) fun p => (pcfgs (F := F) p).Adm
/-- The SparseCore configuration: one vector-subcore call. -/
abbrev K : SparseCore.Cfg τ sig (ΛP (F := F)) 1 := sc (F := F)
/-- The definitions below the SparseCore layer. -/
abbrev D [FloatOps F] : Defs nD τ sig (Elt F) (ΛP (F := F)) := Pipeline.defs pcfgs defs₀
/-- No part of the program counts down by a measure of its own. -/
abbrev 𝒱₀ : Variants := Variants.none
/-- The same, lifted to the launched program. -/
abbrev 𝒱 : Variants := 𝒱₀.lift
/-- The launch's variant. -/
abbrev v₀ : 𝒱.V := Sum.inl none

/-- The handshake semaphores are distinct and unscoped, and no buffer is shared among tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

/-- The handshakes' rounds. -/
abbrev UH : Type := URounds (GSem nD τ sig) ℕ
/-- The pipelined call's rounds. -/
abbrev UP : Type := URounds (GSem nD τ sig) Unit
/-- The rounds of both, beside the transfers' counters. -/
abbrev UU : Type := UH × (UP × Counters)

local notation "𝕄" => MT nD τ sig (HIx 1) (Elt F) ℕ UU ℕ

/-- The handshakes' rounds inside the whole algebra. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipelined call's rounds inside the whole algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-- What the handshakes own lies in the user part. -/
instance EH_landsIn : (EH : Emb UH 𝕄).LandsIn (upEmb : UEmb _ 𝕄) := by unfold EH; infer_instance
/-- What the pipelined call owns lies in the user part. -/
instance EP_landsIn : (EP : Emb UP 𝕄).LandsIn (upEmb : UEmb _ 𝕄) := by unfold EP; infer_instance

/-! ## A task's histogram -/

/-- Element `k` of a flat array of the launch's length (`k` taken modulo that length, so that it is total). -/
def pos (k : ℕ) : S4194304.Idx := Shape.ofLane (d := ![4194304]) ⟨k % 4194304, Nat.mod_lt _ (by decide)⟩

/-- The sixteen elements of a flat array a trip reads: trip `n` of the task whose elements start at `b`. -/
def lanes {α : Type} (x : S4194304.Idx → α) (b n : ℕ) : S16.Idx → α := fun j => x (pos (b + 16 * n + (j 0).val))

variable [FloatOps F]

/-- The bins trip `n` adds one to. -/
def binsOf (x : Vec F S4194304 .f32) (t : Vec F S4194304 .i32) (b n : ℕ) : IVec S16 32 := k0_pay4 (lanes x b n) (lanes t b n)

/-- What a task's histogram may hold after `n` trips over the elements from `b`: zero everywhere, then one added
    per lane at the lane's bin, trip after trip. -/
inductive Hist (x : Vec F S4194304 .f32) (t : Vec F S4194304 .i32) (b : ℕ) : ℕ → Vec F S65536 .f32 → Prop
  | zero : Hist x t b 0 fun _ => Scalar.ofBits .f32 0x00000000#32
  | step {n : ℕ} {f : Vec F S65536 .f32} (h : ∀ a x', ((![binsOf x t b n] : Fin 1 → IVec S16 32) a x').toNat < S65536.size a) :
      Hist x t b n f → Hist x t b (n + 1) (storeIdx f ![binsOf x t b n] (k0_pay3 (F := F)) (fun _ => 1#1) true h)

/-- Every label is zero or one. -/
def Labels01 (t : Vec F S4194304 .i32) : Prop := ∀ k, t k = 0#32 ∨ t k = 1#32

/-- A word clamped into `[0, 32767]` is below 32768. -/
theorem clamp_lt (v : BitVec 32) : (IntOp.minsi (IntOp.maxsi v 0#32) 32767#32).toNat < 32768 := by
  unfold IntOp.minsi IntOp.maxsi
  simp only [BitVec.slt, decide_eq_true_eq]
  have h0 : (0#32 : BitVec 32).toInt = 0 := rfl
  have h1 : (32767#32 : BitVec 32).toInt = 32767 := rfl
  split_ifs with ha hb hb
  · have := BitVec.toInt_eq_toNat_cond v
    omega
  · decide
  · decide
  · decide

/-- The bin of a score: `(v + 12) * (32768 / 24)` truncated and clamped into `[0, 32767]`. -/
def bin (v : F .f32) : ℕ :=
  (IntOp.minsi (IntOp.maxsi (FloatOps.fptosi 32 (FloatOps.mulf (FloatOps.addf v (FloatOps.ofBits .f32 0x41400000#32)) (FloatOps.ofBits .f32 0x44AAAAAB#32))) 0#32) 32767#32).toNat

/-- A bin is one of the 32768. -/
theorem bin_lt (v : F .f32) : bin v < 32768 := clamp_lt _

/-- Lane `j` of trip `n` names bin `bin x + 32768 * t` of its element. -/
theorem binsOf_toNat (x : Vec F S4194304 .f32) {t : Vec F S4194304 .i32} (ht : Labels01 t) (b n : ℕ) (j : S16.Idx) :
    (binsOf x t b n j).toNat = bin (lanes x b n j) + 32768 * (lanes t b n j).toNat := by
  have h := bin_lt (lanes x b n j)
  have hb : (minsi (maxsi (fptosi 32 (mulf (addf (lanes x b n) (broadcast S16 (FloatOps.ofBits FTy.f32 0x41400000#32)))
      (broadcast S16 (FloatOps.ofBits FTy.f32 0x44AAAAAB#32)))) (broadcast S16 0#32)) (broadcast S16 32767#32) j).toNat = bin (lanes x b n j) := rfl
  rcases ht (pos (b + 16 * n + (j 0).val)) with e | e
  all_goals
    show (IntOp.addi _ (IntOp.muli (lanes t b n j) 32768#32)).toNat = _
    unfold IntOp.addi IntOp.muli
    have e' : lanes t b n j = _ := e
    rw [e', BitVec.toNat_add]
    refine (congrArg (fun z => (z + _) % 2 ^ 32) hb).trans ?_
    simp
    omega

/-- Every lane names one of the histogram's bins. -/
theorem binsOf_lt (x : Vec F S4194304 .f32) {t : Vec F S4194304 .i32} (ht : Labels01 t) (b n : ℕ) :
    ∀ a x', ((![binsOf x t b n] : Fin 1 → IVec S16 32) a x').toNat < S65536.size a := by
  intro a j
  obtain rfl : a = 0 := Subsingleton.elim _ _
  show (binsOf x t b n j).toNat < 65536
  rw [binsOf_toNat x ht]
  have h := bin_lt (lanes x b n j)
  rcases ht (pos (b + 16 * n + (j 0).val)) with e | e
  all_goals
    have e' : lanes t b n j = _ := e
    rw [e']; simp; omega

end Cert.Proof.Lovasz

end
-- ==== Proof.Tile.lean ====
/-
  One task of the SparseCore kernel: the histogram zeroed, eight chunks of its elements fetched and counted, the
  histogram written out.
-/
module

public import proofs.«01_k».proof.Proof.Base
public import Idealize.ShloMosaic.Lib.WritesUnit

@[expose] public section

noncomputable section

namespace Cert.Proof.Lovasz

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers -/

local notation "xW" => (Memref.whole Cert.KernelIdeal.main_v0_scv : Memref Cert.KernelIdeal.sig Kind.scVector Space.hbm Cert.KernelIdeal.S4194304 EltTy.f32)
local notation "tW" => (Memref.whole Cert.KernelIdeal.main_v1_scv : Memref Cert.KernelIdeal.sig Kind.scVector Space.hbm Cert.KernelIdeal.S4194304 EltTy.i32)
local notation "oW" => (Memref.whole Cert.KernelIdeal.main_v2_scv : Memref Cert.KernelIdeal.sig Kind.scVector Space.hbm Cert.KernelIdeal.S32x65536 EltTy.f32)
local notation "xS" => (Memref.whole Cert.KernelIdeal.cc0_scratch0 : Memref Cert.KernelIdeal.sig Kind.scVector Space.vmem Cert.KernelIdeal.S16384 EltTy.f32)
local notation "tS" => (Memref.whole Cert.KernelIdeal.cc0_scratch1 : Memref Cert.KernelIdeal.sig Kind.scVector Space.vmem Cert.KernelIdeal.S16384 EltTy.i32)
local notation "hS" => (Memref.whole Cert.KernelIdeal.cc0_scratch2 : Memref Cert.KernelIdeal.sig Kind.scVector Space.vmem Cert.KernelIdeal.S65536 EltTy.f32)

/-- The flattened scores, the flattened labels and the histograms, as locations of device `d`. -/
abbrev xLoc (d : Dev nD) : Loc nD τ sig := (SparseCore.T d).loc main_v0
/-- The flat labels in main memory. -/
abbrev tLoc (d : Dev nD) : Loc nD τ sig := (SparseCore.T d).loc main_v1
/-- The histograms in main memory. -/
abbrev oLoc (d : Dev nD) : Loc nD τ sig := (SparseCore.T d).loc main_v2

variable [FloatOps F]

/-- The SparseCore of a task. -/
abbrev cV (L : grid0.Coords) : Fin τ.nSC := (L 0).castLE hcore0
/-- The subcore of a task. -/
abbrev jV (L : grid0.Coords) : Fin τ.nSub := (L 1).castLE hsub0

/-- The first element of a task's share. -/
abbrev base (L : grid0.Coords) : ℕ := 262144 * (L 1).val + 131072 * (L 0).val

section Tile

variable (d : Dev nD) (L : grid0.Coords)

/-- The task's thread. -/
abbrev thr : Thread nD τ := V d (cV L) (jV L)

/-- The elements chunk `r` fetches. -/
def chunkOf {α : Type} (x : S4194304.Idx → α) (b r : ℕ) : S16384.Idx → α := fun j => x (pos (b + 16384 * r + (j 0).val))

/-- The three scratch buffers as the kernel's memrefs address them. -/
abbrev xPts (f : Vec F S16384 .f32) : sProp 𝕄 := (xS).view.loc (thr d L) ↦{fullShare} f
/-- The subcore's label buffer, held with its contents. -/
abbrev tPts (f : Vec F S16384 .i32) : sProp 𝕄 := (tS).view.loc (thr d L) ↦{fullShare} f
/-- The subcore's histogram buffer, held with its contents. -/
abbrev hPts (f : Vec F S65536 .f32) : sProp 𝕄 := (hS).view.loc (thr d L) ↦{fullShare} f

/-- The trips of chunk `r` in progress: `n` of them counted. -/
def cnt (x : Vec F S4194304 .f32) (t : Vec F S4194304 .i32) (r : ℕ) (n : ℕ) (_ : Unit) : sProp 𝕄 :=
  iprop(xPts d L (chunkOf x (base L) r) ∗ tPts d L (chunkOf t (base L) r) ∗ ∃ h, ⌜Hist x t (base L) (1024 * r + n) h⌝ ∗ hPts d L h)

/-- A chunk's elements `16 k … 16 k + 15`, loaded from the scratch buffer: the lanes of the task's trip `1024 r + k`. -/
theorem load_x (x : S4194304.Idx → F .f32) (r : ℕ) (k : Fin k0_t2_loop.trips) :
    (xS).view.readAt (Elt F) (Rect.unit (s := S16384) (k0_off3 k) S16.size (k0_off3_inb k)).toLoadRect (chunkOf x (base L) r) = lanes x (base L) (1024 * r + k.val) := by
  funext j
  simp only [View.readAt_apply, Memref.view_whole, View.read_whole]
  show x (pos _) = x (pos _)
  congr 2
  have e : ((Rect.unit (s := S16384) (k0_off3 k) S16.size (k0_off3_inb k)).toLoadRect.idx j 0).val = k0_off3 k 0 + (j 0).val := by
    simp [LoadRect.idx_apply]
  have e0 : k0_off3 k 0 = 16 * k.val := congrFun (k0_off3_eq k) 0
  rw [e]
  omega
/-- A trip's load of labels reads the chunk's sixteen elements. -/
theorem load_t (x : S4194304.Idx → BitVec 32) (r : ℕ) (k : Fin k0_t2_loop.trips) :
    (tS).view.readAt (Elt F) (Rect.unit (s := S16384) (k0_off3 k) S16.size (k0_off3_inb k)).toLoadRect (chunkOf x (base L) r) = lanes x (base L) (1024 * r + k.val) := by
  funext j
  simp only [View.readAt_apply, Memref.view_whole, View.read_whole]
  show x (pos _) = x (pos _)
  congr 2
  have e : ((Rect.unit (s := S16384) (k0_off3 k) S16.size (k0_off3_inb k)).toLoadRect.idx j 0).val = k0_off3 k 0 + (j 0).val := by
    simp [LoadRect.idx_apply]
  have e0 : k0_off3 k 0 = 16 * k.val := congrFun (k0_off3_eq k) 0
  rw [e]
  omega

/-- Holding the histogram buffer's elements is holding it whole. -/
theorem pts_hS_whole (f : Vec F S65536 .f32) :
    (((hS).access (.whole S65536)).loc (thr d L) ↦[((hS).access (.whole S65536)).set]{fullShare} f : sProp 𝕄) = hPts d L f := by
  have e : ((hS).access (.whole S65536)).set = Finset.univ := Memref.set_access_whole _
  rw [e]

/-- The 1024 trips of chunk `r` count its elements. -/
theorem loop_body (x : Vec F S4194304 .f32) (t : Vec F S4194304 .i32) (ht : Labels01 t) (r : ℕ) (Q : Unit → sProp 𝕄) :
    iprop(cnt d L x t r 0 ⟨⟩ ∗ (cnt d L x t r 1024 ⟨⟩ -∗ Q ⟨⟩))
      ⊢ wp frame (wpE (defs₀ (F := F)) 𝒱₀ (thr d L) none) Set.univ
          (Scf.Loop.for k0_t2_loop k0_t2_ok ⟨⟩ (k0_t2_body L xW (Memref.isWhole_whole _) tW (Memref.isWhole_whole _) oW (Memref.isWhole_whole _)
            xS (Memref.isWhole_whole _) tS (Memref.isWhole_whole _) hS (Memref.isWhole_whole _) cc0_scratch3 cc0_scratch4 cc0_scoped0)) Q := by
  iintro ⟨H, HQ⟩
  sl_for (cnt d L x t r) $$ [H HQ]
  case region =>
    intro k _
    unfold cnt
    iintro ⟨Hx, Ht, %h, %hh, Hh⟩
    sl_exec
    generalize hv : loop_body.sl.v103 L x t r k = v
    have hv' : v = binsOf x t (base L) (1024 * r + k.val) := hv.symm.trans (by
      unfold loop_body.sl.v103
      exact congrArg₂ k0_pay4 (load_x L x r k) (load_t L t r k))
    subst hv'
    have hc : k0_chk1 (binsOf x t (base L) (1024 * r + k.val)) := binsOf_lt x ht _ _
    rw [wp_assume_of _ _ _ _ hc]
    ihave Hh' := (Entails.of_eq (pts_hS_whole d L _).symm) $$ Hh
    iapply (SparseCore.wp_vectorStoreIdx 𝒱₀ (thr d L) none Set.univ (base := hS)) $$ Hh'; iintro Hh'
    ihave Hh := (Entails.of_eq (pts_hS_whole d L _)) $$ Hh'
    sl_step
    isplitl [Hx]; · iexact Hx
    isplitl [Ht]; · iexact Ht
    iexists _; isplitr
    rotate_left
    · iexact Hh
    · ipureintro
      rw [Memref.write_access_whole_univ, Memref.read_access_whole]
      exact .step (binsOf_lt x ht _ _) hh
  · isplitl [H]; · iexact H
    iintro %_ HI
    iapply HQ; iexact HI

/-- The histogram being zeroed: the first `16 n` bins hold zero. -/
def zeroed (n : ℕ) (_ : Unit) : sProp 𝕄 :=
  iprop(∃ f : Vec F S65536 .f32, ⌜∀ j : S65536.Idx, (j 0).val < 16 * n → f j = Scalar.ofBits .f32 0x00000000#32⌝ ∗ hPts d L f)

/-- The zero loop leaves every bin zero. -/
theorem zero_body (f : Vec F S65536 .f32) (Q : Unit → sProp 𝕄) :
    iprop(hPts d L f ∗ (hPts d L (fun _ => Scalar.ofBits .f32 0x00000000#32) -∗ Q ⟨⟩))
      ⊢ wp frame (wpE (defs₀ (F := F)) 𝒱₀ (thr d L) none) Set.univ
          (Scf.Loop.for k0_t1_loop k0_t1_ok ⟨⟩ (k0_t1_body L xW (Memref.isWhole_whole _) tW (Memref.isWhole_whole _) oW (Memref.isWhole_whole _)
            xS (Memref.isWhole_whole _) tS (Memref.isWhole_whole _) hS (Memref.isWhole_whole _) cc0_scratch3 cc0_scratch4 cc0_scoped0)) Q := by
  iintro ⟨H, HQ⟩
  sl_for (zeroed (F := F) d L) $$ [H HQ]
  case region =>
    intro k _
    unfold zeroed
    iintro ⟨%h, %hh, Hh⟩
    sl_exec
    sl_step
    iexists _; isplitr
    rotate_left
    · iexact Hh
    · ipureintro
      intro j hj
      have hr := View.read_writes_cons_unit (hS).view h (k0_off1_inb k) (k0_pay2 (F := F)) [] j (k0_off1_eq k)
      refine (show _ = _ from hr).trans ?_
      split
      · rfl
      · rename_i hn
        refine hh j ?_
        by_contra hlt
        refine hn fun a => ?_
        obtain rfl : a = (0 : Fin 1) := Subsingleton.elim (α := Fin 1) _ _
        exact ⟨by simpa using hlt, show (j 0).val < 16 * k.val + 16 by omega⟩
  · unfold zeroed
    isplitl [H]
    · iexists f; isplitr
      · ipureintro; intro j hj; omega
      · iexact H
    · iintro %_ ⟨%h, %hh, Hh⟩
      have e : h = fun _ => Scalar.ofBits .f32 0x00000000#32 := funext fun j => hh j (j 0).isLt
      subst e
      iapply HQ; iexact Hh

/-- The arrays as a task's memrefs address them. -/
abbrev xaPts (q : PosShare TreeShare) (x : Vec F S4194304 .f32) : sProp 𝕄 := (xW).view.loc (thr d L) ↦{q} x
/-- A share of the flat labels in main memory, held with their contents. -/
abbrev taPts (q : PosShare TreeShare) (t : Vec F S4194304 .i32) : sProp 𝕄 := (tW).view.loc (thr d L) ↦{q} t

/-- A task between chunks: `n` trips counted. -/
def between (q : PosShare TreeShare) (x : Vec F S4194304 .f32) (t : Vec F S4194304 .i32) (O : CellTallies nD τ sig (HIx 1)) (W : Waits sig (HIx 1)) (n : ℕ) : sProp 𝕄 :=
  iprop(Transfers.MayWaits (thr d L) (none : HIx 1) O ∗ xaPts d L q x ∗ taPts d L q t ∗ (∃ f, xPts (F := F) d L f) ∗ (∃ f, tPts (F := F) d L f)
    ∗ (∃ h, ⌜Hist x t (base L) n h⌝ ∗ hPts d L h)
    ∗ semVal (thr d L, SemLoc.dma cc0_scratch3.sem) 0 ∗ semVal (thr d L, SemLoc.dma cc0_scratch4.sem) 0
    ∗ ∃ W', ⌜∀ p ∈ W', p ∈ W ∨ p.2 = none⌝ ∗ owes (thr d L) O W')

/-- Chunk `r` of the kernel: its elements fetched, the fetches awaited, the elements counted. -/
def chunk (r : Fin 8) : Prog (TpuEff nD τ sig (Elt F) Λ₀ (.scVector ((L 0).castLE hcore0) ((L 1).castLE hsub0))) Unit := do
  Prog.lift (.enqueueDma ((xW).slice (Rect.unit (s := S4194304) (k0_off2 L (BitVec.ofNat 32 (16384 * r.val))) S16384.size (k0_off2_inb L r)) (fun _ => rfl)) (.here xS) (.dma cc0_scratch3.sem) (View.wordExact_bits rfl) (Memref.isWhole_whole _).wordExact ⟨Or.inl rfl, trivial⟩)
  Prog.lift (.enqueueDma ((tW).slice (Rect.unit (s := S4194304) (k0_off2 L (BitVec.ofNat 32 (16384 * r.val))) S16384.size (k0_off2_inb L r)) (fun _ => rfl)) (.here tS) (.dma cc0_scratch4.sem) (View.wordExact_bits rfl) (Memref.isWhole_whole _).wordExact ⟨Or.inl rfl, trivial⟩)
  Prog.lift (.waitDma2 cc0_scratch3.sem ((xW).slice (Rect.unit (s := S4194304) (k0_off2 L (BitVec.ofNat 32 (16384 * r.val))) S16384.size (k0_off2_inb L r)) (fun _ => rfl)) xS (View.wordExact_bits rfl) (Memref.isWhole_whole _).wordExact)
  Prog.lift (.waitDma2 cc0_scratch4.sem ((tW).slice (Rect.unit (s := S4194304) (k0_off2 L (BitVec.ofNat 32 (16384 * r.val))) S16384.size (k0_off2_inb L r)) (fun _ => rfl)) tS (View.wordExact_bits rfl) (Memref.isWhole_whole _).wordExact)
  Scf.Loop.for k0_t2_loop k0_t2_ok ⟨⟩ (k0_t2_body L xW (Memref.isWhole_whole _) tW (Memref.isWhole_whole _) oW (Memref.isWhole_whole _)
    xS (Memref.isWhole_whole _) tS (Memref.isWhole_whole _) hS (Memref.isWhole_whole _) cc0_scratch3 cc0_scratch4 cc0_scoped0)

/-- The elements chunk `r`'s fetches read. -/
theorem fetch_off (r : Fin 8) (j : S16384.Idx) (h : ∀ a, k0_off2 L (BitVec.ofNat 32 (16384 * r.val)) a + S16384.size a ≤ S4194304.size a) :
    (Rect.unit (s := S4194304) (k0_off2 L (BitVec.ofNat 32 (16384 * r.val))) S16384.size h).idx j = pos (base L + 16384 * r.val + (j 0).val) := by
  funext a
  obtain rfl : a = 0 := Subsingleton.elim _ _
  apply Fin.ext
  have e0 : k0_off2 L (BitVec.ofNat 32 (16384 * r.val)) 0 = base L + 16384 * r.val := congrFun (k0_off2_eq L r) 0
  have h1 : (j 0).val < 16384 := (j 0).isLt
  have h0 := h 0
  rw [e0] at h0
  have h0' : base L + 16384 * r.val + 16384 ≤ 4194304 := h0
  show k0_off2 L (BitVec.ofNat 32 (16384 * r.val)) 0 + 1 * (j 0).val = (base L + 16384 * r.val + (j 0).val) % 4194304
  rw [e0]
  omega

/-- A chunk of scores, as its copy brings it. -/
theorem fetch_x (x : Vec F S4194304 .f32) (r : Fin 8) :
    ((xW).slice (Rect.unit (s := S4194304) (k0_off2 L (BitVec.ofNat 32 (16384 * r.val))) S16384.size (k0_off2_inb L r)) (fun _ => rfl)).view.read (Elt F) x
      = chunkOf x (base L) r.val :=
  funext fun j => congrArg x (fetch_off L r j _)
/-- A chunk of labels, as its copy brings it. -/
theorem fetch_t (t : Vec F S4194304 .i32) (r : Fin 8) :
    ((tW).slice (Rect.unit (s := S4194304) (k0_off2 L (BitVec.ofNat 32 (16384 * r.val))) S16384.size (k0_off2_inb L r)) (fun _ => rfl)).view.read (Elt F) t
      = chunkOf t (base L) r.val :=
  funext fun j => congrArg t (fetch_off L r j _)

/-- One chunk: from `1024 r` trips counted to `1024 (r + 1)`. -/
theorem chunk_body (q : PosShare TreeShare) (x : Vec F S4194304 .f32) (t : Vec F S4194304 .i32) (ht : Labels01 t) (O : CellTallies nD τ sig (HIx 1)) (W : Waits sig (HIx 1))
    (r : Fin 8) (Q : Unit → sProp 𝕄) :
    iprop(between d L q x t O W (1024 * r.val) ∗ (between d L q x t O W (1024 * (r.val + 1)) -∗ Q ⟨⟩))
      ⊢ wp frame (wpE (defs₀ (F := F)) 𝒱₀ (thr d L) none) Set.univ (chunk L r) Q := by
  unfold chunk between
  iintro ⟨H, HQ⟩
  icases H with ⟨Hmw, Hxa, Hta, ⟨%fx, Hx⟩, ⟨%ft, Ht⟩, Hh, Hsx, Hst, %W', %hW', HO⟩
  sl_exec (disch := exact View.amount_pos _ _ (show 0 < S16384.numel by decide))
  have ex : (xS).view.write (Elt F) fx (chunk_body.sl.dma0 L x r) Finset.univ = chunkOf x (base L) r.val :=
    (View.write_whole_univ _ _ _).trans (fetch_x L x r)
  have et : (tS).view.write (Elt F) ft (chunk_body.sl.dma0_1 L t r) Finset.univ = chunkOf t (base L) r.val :=
    (View.write_whole_univ _ _ _).trans (fetch_t L t r)
  rw [ex, et]
  iapply (loop_body d L x t ht r.val Q)
  isplitl [Hx Ht Hh]
  · unfold cnt
    isplitl [Hx]; · iexact Hx
    isplitl [Ht]; · iexact Ht
    iexact Hh
  unfold cnt
  iintro ⟨Hx, Ht, Hh⟩
  iapply HQ
  isplitl [Hmw]; · iexact Hmw
  isplitl [Hxa]; · iexact Hxa
  isplitl [Hta]; · iexact Hta
  isplitl [Hx]; · iexists _; iexact Hx
  isplitl [Ht]; · iexists _; iexact Ht
  isplitl [Hh]; · rw [show 1024 * (r.val + 1) = 1024 * r.val + 1024 by ring]; iexact Hh
  isplitl [Hsx]; · iexact Hsx
  isplitl [Hst]; · iexact Hst
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact hW' p hp

/-- The kernel as the zero loop, the eight chunks and the write-out. -/
theorem kernel_eq :
    cc0__sc_hist (F := F) L xW (Memref.isWhole_whole _) tW (Memref.isWhole_whole _) oW (Memref.isWhole_whole _)
        xS (Memref.isWhole_whole _) tS (Memref.isWhole_whole _) hS (Memref.isWhole_whole _) cc0_scratch3 cc0_scratch4 cc0_scoped0
      = (do
          Scf.Loop.for k0_t1_loop k0_t1_ok ⟨⟩ (k0_t1_body L xW (Memref.isWhole_whole _) tW (Memref.isWhole_whole _) oW (Memref.isWhole_whole _)
            xS (Memref.isWhole_whole _) tS (Memref.isWhole_whole _) hS (Memref.isWhole_whole _) cc0_scratch3 cc0_scratch4 cc0_scoped0)
          chunk L 0; chunk L 1; chunk L 2; chunk L 3; chunk L 4; chunk L 5; chunk L 6; chunk L 7
          Prog.lift (.enqueueDma hS (.here (((oW).slice (Rect.unit (k0_off11 L) S1x65536.size (k0_off11_inb L)) (fun _ => rfl)).squeeze S65536 squeezes_S1x65536_S65536)) (.dma cc0_scoped0.sem) (Memref.isWhole_whole _).wordExact ((View.wordExact_bits rfl).reshape _ _) ⟨Or.inl rfl, trivial⟩)
          Prog.lift (.waitDma2 cc0_scoped0.sem hS (((oW).slice (Rect.unit (k0_off11 L) S1x65536.size (k0_off11_inb L)) (fun _ => rfl)).squeeze S65536 squeezes_S1x65536_S65536) (Memref.isWhole_whole _).wordExact ((View.wordExact_bits rfl).reshape _ _))
          pure ⟨⟩) := by
  simp only [cc0__sc_hist_eq_skeleton]; unfold cc0__sc_hist_skel
  simp only [k0_part1_eq_skeleton, k0_part2_eq_skeleton, k0_part3_eq_skeleton]
  unfold k0_part1_skel k0_part2_skel k0_part3_skel chunk
  simp only [bind_assoc, pure_bind]
  rfl

/-! ## The task's row of the histograms -/

/-- Bin `b` of histogram `w`. -/
def cell (w : Fin 32) (b : S65536.Idx) : S32x65536.Idx := Shape.pair (d := ![32, 65536]) w (b 0)

/-- The cells of histogram `w`. -/
def rowSet (w : Fin 32) : Finset S32x65536.Idx := Finset.univ.filter fun y => (y (0 : Fin 2)).val = w.val

/-- The histogram a task writes. -/
def wid : Fin 32 := ⟨2 * (L 1).val + (L 0).val, by
  have h0 : (L 0).val < 2 := (L 0).isLt
  have h1 : (L 1).val < 16 := (L 1).isLt
  omega⟩

/-- The histogram a task writes, as the write-out's destination. -/
abbrev outM : Memref sig .scVector .hbm S65536 .f32 :=
  ((oW).slice (Rect.unit (s := S32x65536) (k0_off11 L) S1x65536.size (k0_off11_inb L)) (fun _ => rfl)).squeeze S65536 squeezes_S1x65536_S65536

/-- Where a histogram's element lands in the output. -/
theorem out_emb (b : S65536.Idx) : (outM L).view.emb b = cell (wid L) b := by
  show (Rect.unit (s := S32x65536) (k0_off11 L) S1x65536.size (k0_off11_inb L)).emb (Shape.reshapeEquiv _ b) = _
  rw [Shape.reshapeEquiv_cons_one (d := ![65536])]
  funext a
  apply Fin.ext
  refine (congrArg (· + 1 * _) (congrFun (k0_off11_eq L) a)).trans ?_
  match a with
  | 0 => exact Nat.add_zero _
  | 1 => exact (Nat.zero_add _).trans (Nat.one_mul _)

/-- The elements of a task's row of the output. -/
theorem out_set : (outM L).view.set = rowSet (wid L) := by
  unfold View.set
  ext y
  simp only [Finset.mem_map, Finset.mem_univ, true_and, rowSet, Finset.mem_filter]
  constructor
  · rintro ⟨b, rfl⟩
    exact congrArg (fun z : S32x65536.Idx => (z (0 : Fin 2)).val) (out_emb L b)
  · intro h
    refine ⟨Shape.ofLane (d := ![65536]) ⟨(y (1 : Fin 2)).val, (y (1 : Fin 2)).isLt⟩, (out_emb L _).trans ?_⟩
    funext a
    apply Fin.ext
    match a with
    | 0 => exact h.symm
    | 1 => rfl

/-- Histogram `w`'s cells of the result. -/
abbrev oPts (w : Fin 32) (f : Vec F S32x65536 .f32) : sProp 𝕄 := oLoc d ↦[rowSet w]{fullShare} f

/-- Holding a task's row of the output, by its elements. -/
theorem pts_out (f : Vec F S32x65536 .f32) :
    ((outM L).view.loc (thr d L) ↦[(outM L).view.set]{fullShare} f : sProp 𝕄) = oPts d (wid L) f := by
  rw [out_set]

/-- The write-out leaves the task's histogram in its row. -/
theorem out_lands (f : Vec F S32x65536 .f32) (h : Vec F S65536 .f32) (b : S65536.Idx) :
    (outM L).view.write (Elt F) f h Finset.univ (cell (wid L) b) = h b := by
  rw [← out_emb]
  exact (View.write_emb_of_mem _ _ (Finset.mem_univ _)).trans (cast_eq _ _)

/-! ## What the task owns of its own -/

/-- The cells of the task's three semaphores. -/
abbrev xCell : GSem nD τ sig := (thr d L, SemLoc.dma cc0_scratch3.sem)
/-- The semaphore of the labels' copies. -/
abbrev tCell : GSem nD τ sig := (thr d L, SemLoc.dma cc0_scratch4.sem)
/-- The semaphore of the histogram's copy. -/
abbrev oCell : GSem nD τ sig := (thr d L, SemLoc.dma cc0_scoped0.sem)

/-- A subcore's own semaphores, one by one. -/
theorem ownSems0_V :
    (ownSems0 (thr d L) : sProp 𝕄)
      = iprop(semVal (xCell d L) 0 ∗ semVal (tCell d L) 0 ∗ semVal (oCell d L) 0
          ∗ bigSep ((((ownCells (thr d L)).erase (xCell d L)).erase (tCell d L)).erase (oCell d L)) fun g => semVal g 0) := by
  have mem (σ : SemLoc sig) (h : σ.isScoped .scVector = true) : ((thr d L, σ) : GSem nD τ sig) ∈ ownCells (thr d L) := mem_ownCells.mpr ⟨rfl, h⟩
  have ne {σ σ' : SemLoc sig} (h : σ ≠ σ') : ((thr d L, σ) : GSem nD τ sig) ≠ (thr d L, σ') := fun e => h (congrArg Prod.snd e)
  unfold SparseCore.Cfg.ownSems0
  rw [SparseCore.bigSep_erase' (mem (.dma cc0_scratch3.sem) (by decide)),
    SparseCore.bigSep_erase' (Finset.mem_erase.mpr ⟨ne (by decide), mem (.dma cc0_scratch4.sem) (by decide)⟩),
    SparseCore.bigSep_erase' (Finset.mem_erase.mpr ⟨ne (by decide), Finset.mem_erase.mpr ⟨ne (by decide), mem (.dma cc0_scoped0.sem) (by decide)⟩⟩)]

/-- A subcore's own buffers, one by one. -/
theorem ownBufs_V :
    (ownBufs (thr d L) : sProp 𝕄)
      = iprop((∃ f, xPts (F := F) d L f) ∗ (∃ f, tPts (F := F) d L f) ∗ (∃ f, hPts (F := F) d L f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have mem (b : Ref sig .scVector) (h : ((Proc.scVector (cV L) (jV L)).devRef b).owner = .proc (Proc.scVector (cV L) (jV L))) :
      (Proc.scVector (cV L) (jV L)).devRef b ∈ ownRefs (τ := τ) (.scVector (cV L) (jV L)) := SparseCore.Cfg.mem_ownRefs_of_owner h
  have ne {b b' : Ref sig .scVector} (h : b ≠ b') : (Proc.scVector (cV L) (jV L)).devRef b ≠ (Proc.scVector (cV L) (jV L)).devRef b' :=
    fun e => h (Proc.devRef_injective _ e)
  unfold SparseCore.Cfg.ownBufs
  refine (SparseCore.bigSep_erase' (mem cc0_scratch0 rfl)).trans ?_
  rw [SparseCore.bigSep_erase' (Finset.mem_erase.mpr ⟨ne (by decide), mem cc0_scratch1 rfl⟩),
    SparseCore.bigSep_erase' (Finset.mem_erase.mpr ⟨ne (by decide), Finset.mem_erase.mpr ⟨ne (by decide), mem cc0_scratch2 rfl⟩⟩)]
  rfl

/-! ## The task -/

/-- Histogram `w` of the result counts the elements of the task that writes it. -/
def RowOK (x : Vec F S4194304 .f32) (t : Vec F S4194304 .i32) (w : Fin 32) (f : Vec F S32x65536 .f32) : Prop :=
  Hist x t (131072 * w.val) 8192 fun b => f (cell w b)

/-- A task's first element, from its number. -/
theorem base_wid : base L = 131072 * (wid L).val := by show _ = 131072 * (2 * (L 1).val + (L 0).val); ring

/-- The task of subcore `L`: from its shares of the scores and the labels and its row of the result, to the row
    holding the histogram of its elements. -/
theorem tile_body (q : PosShare TreeShare) (x : Vec F S4194304 .f32) (t : Vec F S4194304 .i32) (ht : Labels01 t) (fo : Vec F S32x65536 .f32)
    (O : CellTallies nD τ sig (HIx 1)) (W : Waits sig (HIx 1)) (hO : ∀ g, O g none = 0) :
    iprop(levAts (K (F := F)).L (K (F := F)).lev ∗ emp ∗ ((xLoc d ↦{q} x) ∗ (tLoc d ↦{q} t) ∗ oPts d (wid L) fo)
        ∗ scopedBufs (thr d L) ∗ scopedSems0 (thr d L) ∗ owes (thr d L) O W)
      ⊢ wp frame (wpE (defs₀ (F := F)) 𝒱₀ (thr d L) none) Set.univ
          (cc0__sc_hist L xW (Memref.isWhole_whole _) tW (Memref.isWhole_whole _) oW (Memref.isWhole_whole _)
            xS (Memref.isWhole_whole _) tS (Memref.isWhole_whole _) hS (Memref.isWhole_whole _) cc0_scratch3 cc0_scratch4 cc0_scoped0)
          fun _ => iprop(((xLoc d ↦{q} x) ∗ (tLoc d ↦{q} t) ∗ ∃ f, ⌜RowOK x t (wid L) f⌝ ∗ oPts d (wid L) f)
            ∗ scopedBufs (thr d L) ∗ scopedSems0 (thr d L) ∗ ∃ W', ⌜∀ p ∈ W', p ∈ W ∨ p.2 = none⌝ ∗ owes (thr d L) O W') := by
  rw [kernel_eq]
  simp only [wp_bind]
  rw [(K (F := F)).scopedBufs_V facts d (cV L) (jV L), SparseCore.Cfg.scopedSems0_V (Val := Elt F) d (cV L) (jV L), ownSems0_V, ownBufs_V]
  iintro ⟨#Hlv, -, ⟨Hxa, Hta, Ho⟩, ⟨Hx, Ht, ⟨%fh, Hh⟩, Hbufs⟩, ⟨Hsx, Hst, Hso, Hsems⟩, HO⟩
  ihave Hmw := ((K (F := F)).mayWaits_none (thr := thr d L) hO) $$ Hlv
  iapply (zero_body d L fh)
  isplitl [Hh]; · iexact Hh
  iintro Hh
  iapply (chunk_body d L q x t ht O W 0)
  isplitl [Hmw Hxa Hta Hx Ht Hh Hsx Hst HO]
  · unfold between
    isplitl [Hmw]; · iexact Hmw
    isplitl [Hxa]; · iexact Hxa
    isplitl [Hta]; · iexact Hta
    isplitl [Hx]; · iexact Hx
    isplitl [Ht]; · iexact Ht
    isplitl [Hh]
    · iexists _; isplitr
      · ipureintro; exact .zero
      · iexact Hh
    isplitl [Hsx]; · iexact Hsx
    isplitl [Hst]; · iexact Hst
    iexists W; isplitr
    · ipureintro; exact fun p hp => .inl hp
    · iexact HO
  iintro H
  iapply (chunk_body d L q x t ht O W 1); isplitl [H]; · iexact H
  iintro H
  iapply (chunk_body d L q x t ht O W 2); isplitl [H]; · iexact H
  iintro H
  iapply (chunk_body d L q x t ht O W 3); isplitl [H]; · iexact H
  iintro H
  iapply (chunk_body d L q x t ht O W 4); isplitl [H]; · iexact H
  iintro H
  iapply (chunk_body d L q x t ht O W 5); isplitl [H]; · iexact H
  iintro H
  iapply (chunk_body d L q x t ht O W 6); isplitl [H]; · iexact H
  iintro H
  iapply (chunk_body d L q x t ht O W 7); isplitl [H]; · iexact H
  unfold between
  iintro ⟨Hmw, Hxa, Hta, Hx, Ht, ⟨%h, %hh, Hh⟩, Hsx, Hst, %W', %hW', HO⟩
  simp only [← wp_bind]
  ihave Ho' := (Entails.of_eq (pts_out d L _).symm) $$ Ho
  sl_exec
  sl_step
  rw [show 1024 * ((7 : Fin 8).val + 1) = 8192 from by decide] at hh
  ihave Ho := (Entails.of_eq (pts_out d L _)) $$ Ho'
  have el : ∀ b, (outM L).view.writes (Elt F) fo [⟨Rect.whole S65536, tile_body.sl.dma0 h⟩] (cell (wid L) b) = h b := fun b =>
    (congrFun (View.write_univ_eq_writes_whole (outM L).view fo [] (tile_body.sl.dma0 h)).symm _).trans (out_lands L fo h b)
  isplitl [Hxa Hta Ho]
  · isplitl [Hxa]; · iexact Hxa
    isplitl [Hta]; · iexact Hta
    iexists _; isplitr
    rotate_left
    · iexact Ho
    · ipureintro
      unfold RowOK
      rw [← base_wid, show (fun b => _) = h from funext el]
      exact hh
  isplitl [Hx Ht Hh Hbufs]
  · isplitl [Hx]; · iexact Hx
    isplitl [Ht]; · iexact Ht
    isplitl [Hh]; · iexists _; iexact Hh
    iexact Hbufs
  isplitl [Hsx Hst Hso Hsems]
  · isplitl [Hsx]; · iexact Hsx
    isplitl [Hst]; · iexact Hst
    isplitl [Hso]; · iexact Hso
    iexact Hsems
  iexists _; isplitr
  rotate_left
  · iexact HO
  · ipureintro; intro p hp
    rcases Finset.mem_insert.mp hp with hp | hp
    · exact .inr (hp ▸ rfl)
    · exact hW' p hp

end Tile

end Cert.Proof.Lovasz

end
-- ==== Proof.Combine.lean ====
/-
  One grid point of the TensorCore kernel: the two class accumulators set to zero at the first point, the point's
  block added to the accumulator of its class, and at the last point the loss computed from both and stored.
-/
module

public import proofs.«01_k».proof.Proof.Base
public import Idealize.ShloMosaic.Lib.WritesUnit

@[expose] public section

noncomputable section

namespace Cert.Proof.Lovasz

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body's branch conditions, at each point of the grid -/

/-- The point is the first. -/
abbrev isFirst (i : grid1.Coords) : Prop := Scalar.cmpi .ne (Scalar.extui (Scalar.cmpi .eq (BitVec.ofNat 32 (i 0).val) 0#32)) 0#32 = 1#1

/-- The point's number modulo two, as the body computes it. -/
abbrev par (i : grid1.Coords) : BitVec 32 :=
  Scalar.select (Scalar.andi (Scalar.xori (Scalar.cmpi .slt (Scalar.remsi (BitVec.ofNat 32 (i 0).val) (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi (BitVec.ofNat 32 (i 0).val) (Scalar.select (Scalar.cmpi .eq 2#32 0#32) 1#32 2#32)) 0#32))
    (Scalar.addi (Scalar.remsi (BitVec.ofNat 32 (i 0).val) (Scalar.select (Scalar.cmpi .eq 2#32 0#32) 1#32 2#32)) (Scalar.select (Scalar.cmpi .eq 2#32 0#32) 1#32 2#32))
    (Scalar.remsi (BitVec.ofNat 32 (i 0).val) (Scalar.select (Scalar.cmpi .eq 2#32 0#32) 1#32 2#32))

/-- The point is even. -/
abbrev isEven (i : grid1.Coords) : Prop := Scalar.cmpi .ne (Scalar.extui (Scalar.cmpi .eq (par i) 0#32)) 0#32 = 1#1
/-- The point is odd. -/
abbrev isOdd (i : grid1.Coords) : Prop := Scalar.cmpi .ne (Scalar.extui (Scalar.cmpi .eq (par i) 1#32)) 0#32 = 1#1

/-- A grid step's coordinate is its number. -/
theorem coords_val : ∀ t : Fin grid1.N, ((grid1.coords t) 0).val = t.val := by decide
/-- The first step is step zero. -/
theorem first_iff : ∀ t : Fin grid1.N, isFirst (grid1.coords t) ↔ t.val = 0 := by decide
/-- The even steps, by number. -/
theorem even_iff : ∀ t : Fin grid1.N, isEven (grid1.coords t) ↔ t.val % 2 = 0 := by decide
/-- The odd steps, by number. -/
theorem odd_iff : ∀ t : Fin grid1.N, isOdd (grid1.coords t) ↔ t.val % 2 = 1 := by decide
/-- The last step is step 63. -/
theorem last_iff : ∀ t : Fin grid1.N, k1_cond4 (grid1.coords t) = 1#1 ↔ t.val = 63 := by decide

/-! ## The body's run -/

/-- A load of a whole tile reads the tile. -/
theorem readAt_tile (M : Memref sig .tc .vmem S256x128 .f32) (f : M.view.ty.Contents (Elt F)) (h : ∀ a, (![0, 0] : Fin 2 → ℕ) a + S256x128.size a ≤ S256x128.size a) :
    M.view.readAt (Elt F) (Rect.unit (s := S256x128) ![0, 0] S256x128.size h).toLoadRect f = M.view.read (Elt F) f := by
  funext y
  refine (View.readAt_apply ..).trans (congrArg (M.view.read (Elt F) f) (funext fun a => Fin.ext ?_))
  fin_cases a <;> simp [Rect.unit, Rect.toLoadRect]

/-- A store of a whole tile into the first accumulator leaves the tile stored. -/
theorem store_acc0 (f w : Vec F S256x128 .f32) (L : List (View.Piece (Elt F) S256x128 .f32)) (h : ∀ a, (![0, 0] : Fin 2 → ℕ) a + S256x128.size a ≤ S256x128.size a) :
    (Memref.whole cc1_scratch0).view.writes (Elt F) f (⟨Rect.unit (s := S256x128) ![0, 0] S256x128.size h, w⟩ :: L) = w :=
  funext fun y => View.read_writes_cons_unit_of_mem (Memref.whole cc1_scratch0).view f h w L y y rfl fun a => by fin_cases a <;> simp

/-- The same of the second. -/
theorem store_acc1 (f w : Vec F S256x128 .f32) (L : List (View.Piece (Elt F) S256x128 .f32)) (h : ∀ a, (![0, 0] : Fin 2 → ℕ) a + S256x128.size a ≤ S256x128.size a) :
    (Memref.whole cc1_scratch1).view.writes (Elt F) f (⟨Rect.unit (s := S256x128) ![0, 0] S256x128.size h, w⟩ :: L) = w :=
  funext fun y => View.read_writes_cons_unit_of_mem (Memref.whole cc1_scratch1).view f h w L y y rfl fun a => by fin_cases a <;> simp

/-- The same of the result. -/
theorem store_out (f w : Vec F S1x1 .f32) (L : List (View.Piece (Elt F) S1x1 .f32)) (h : ∀ a, (![0, 0] : Fin 2 → ℕ) a + S1x1.size a ≤ S1x1.size a) :
    (Memref.whole cc1_stg1_0).view.writes (Elt F) f (⟨Rect.unit (s := S1x1) ![0, 0] S1x1.size h, w⟩ :: L) = w :=
  funext fun y => View.read_writes_cons_unit_of_mem (Memref.whole cc1_stg1_0).view f h w L y y rfl fun a => by fin_cases a <;> simp

/-- An accumulator read whole is its contents. -/
theorem read_acc0 (f : Vec F S256x128 .f32) : (Memref.whole cc1_scratch0).view.read (Elt F) f = f := View.read_whole ..
/-- Reading the second accumulator whole gives its contents. -/
theorem read_acc1 (f : Vec F S256x128 .f32) : (Memref.whole cc1_scratch1).view.read (Elt F) f = f := View.read_whole ..

/-- The scratch accumulator of the elements labelled 0, and of those labelled 1. -/
abbrev accPts0 (c : Dev nD) (f : Vec F S256x128 .f32) : sProp 𝕄 := (Memref.whole cc1_scratch0).view.loc (c : Thread nD τ) ↦{fullShare} f
/-- The second accumulator, held with its contents. -/
abbrev accPts1 (c : Dev nD) (f : Vec F S256x128 .f32) : sProp 𝕄 := (Memref.whole cc1_scratch1).view.loc (c : Thread nD τ) ↦{fullShare} f

/-- The result's staging buffer. -/
abbrev outPts (c : Dev nD) (f : Vec F S1x1 .f32) : sProp 𝕄 := (Memref.whole cc1_stg1_0).view.loc (c : Thread nD τ) ↦{fullShare} f

/-- What the last point stores, of the two accumulators. -/
def lossOf (a b : Vec F S256x128 .f32) : Vec F S1x1 .f32 := k1_pay1 b (k1_pay2 a b) k1_pay3 k1_pay4

/-- The first point. -/
theorem run_first (c : Dev nD) (i : grid1.Coords) (M : Memref sig .tc .vmem S256x128 .f32) (hM : M.IsWhole) (h1 : isFirst i) (h2 : isEven i) (h3 : ¬ isOdd i) (h4 : ¬ k1_cond4 i = 1#1)
    (f : Buf (Elt F) (M.view.loc (c : Thread nD τ))) (X a b : Vec F S256x128 .f32) (hf : M.view.read (Elt F) f = X) (Q : PUnit → sProp 𝕄) :
    iprop((M.view.loc (c : Thread nD τ) ↦{fullShare} f) ∗ accPts0 c a ∗ accPts1 c b
      ∗ (iprop((M.view.loc (c : Thread nD τ) ↦{fullShare} f) ∗ accPts0 c (k1_pay8 X k1_pay6) ∗ accPts1 c k1_pay7) -∗ Q ⟨⟩))
    ⊢ wp frame (wpE (defs₀ (F := F)) 𝒱₀ (c : Thread nD τ) none) Set.univ
        (cc1__tc_combine i M hM (stage1_1 0) (hstage1_1 0) (Memref.whole cc1_scratch0) (Memref.isWhole_whole _) (Memref.whole cc1_scratch1) (Memref.isWhole_whole _)) Q := by
  iintro ⟨H0, Ha, Hb, Hk⟩
  sl_exec!
  sl_step
  iapply Hk
  isplitl [H0]; · iexact H0
  have ev : run_first.sl.v34 (F := F) = k1_pay6 := by
    unfold run_first.sl.v34 View.readCov
    rw [readAt_tile]
    unfold run_first.sl.Ha_1
    rw [store_acc0, read_acc0]
  have ea : (Memref.whole cc1_scratch0).view.writes (Elt F) (Memref.whole cc1_scratch0).view.junk (run_first.sl.Ha_2 c M f) = k1_pay8 X k1_pay6 := by
    unfold run_first.sl.Ha_2
    rw [store_acc0, readAt_tile, hf, ev]
  have eb : (Memref.whole cc1_scratch1).view.writes (Elt F) (Memref.whole cc1_scratch1).view.junk (run_first.sl.Hb_1 (F := F)) = k1_pay7 := by
    unfold run_first.sl.Hb_1
    rw [store_acc1]
  rw [ea, eb]
  isplitl [Ha]; · iexact Ha
  iexact Hb

/-- An even point after the first. -/
theorem run_even (c : Dev nD) (i : grid1.Coords) (M : Memref sig .tc .vmem S256x128 .f32) (hM : M.IsWhole) (h1 : ¬ isFirst i) (h2 : isEven i) (h3 : ¬ isOdd i) (h4 : ¬ k1_cond4 i = 1#1)
    (f : Buf (Elt F) (M.view.loc (c : Thread nD τ))) (X a b : Vec F S256x128 .f32) (hf : M.view.read (Elt F) f = X) (Q : PUnit → sProp 𝕄) :
    iprop((M.view.loc (c : Thread nD τ) ↦{fullShare} f) ∗ accPts0 c a ∗ accPts1 c b
      ∗ (iprop((M.view.loc (c : Thread nD τ) ↦{fullShare} f) ∗ accPts0 c (k1_pay8 X a) ∗ accPts1 c b) -∗ Q ⟨⟩))
    ⊢ wp frame (wpE (defs₀ (F := F)) 𝒱₀ (c : Thread nD τ) none) Set.univ
        (cc1__tc_combine i M hM (stage1_1 0) (hstage1_1 0) (Memref.whole cc1_scratch0) (Memref.isWhole_whole _) (Memref.whole cc1_scratch1) (Memref.isWhole_whole _)) Q := by
  iintro ⟨H0, Ha, Hb, Hk⟩
  sl_exec!
  sl_step
  iapply Hk
  isplitl [H0]; · iexact H0
  have ea : (Memref.whole cc1_scratch0).view.writes (Elt F) (Memref.whole cc1_scratch0).view.junk (run_even.sl.Ha_1 c M f a) = k1_pay8 X a := by
    unfold run_even.sl.Ha_1
    rw [store_acc0, readAt_tile, readAt_tile, read_acc0, hf]
  rw [ea]
  isplitl [Ha]; · iexact Ha
  iexact Hb

/-- An odd point before the last. -/
theorem run_odd (c : Dev nD) (i : grid1.Coords) (M : Memref sig .tc .vmem S256x128 .f32) (hM : M.IsWhole) (h1 : ¬ isFirst i) (h2 : ¬ isEven i) (h3 : isOdd i) (h4 : ¬ k1_cond4 i = 1#1)
    (f : Buf (Elt F) (M.view.loc (c : Thread nD τ))) (X a b : Vec F S256x128 .f32) (hf : M.view.read (Elt F) f = X) (Q : PUnit → sProp 𝕄) :
    iprop((M.view.loc (c : Thread nD τ) ↦{fullShare} f) ∗ accPts0 c a ∗ accPts1 c b
      ∗ (iprop((M.view.loc (c : Thread nD τ) ↦{fullShare} f) ∗ accPts0 c a ∗ accPts1 c (k1_pay9 X b)) -∗ Q ⟨⟩))
    ⊢ wp frame (wpE (defs₀ (F := F)) 𝒱₀ (c : Thread nD τ) none) Set.univ
        (cc1__tc_combine i M hM (stage1_1 0) (hstage1_1 0) (Memref.whole cc1_scratch0) (Memref.isWhole_whole _) (Memref.whole cc1_scratch1) (Memref.isWhole_whole _)) Q := by
  iintro ⟨H0, Ha, Hb, Hk⟩
  sl_exec!
  sl_step
  iapply Hk
  isplitl [H0]; · iexact H0
  isplitl [Ha]; · iexact Ha
  have eb : (Memref.whole cc1_scratch1).view.writes (Elt F) (Memref.whole cc1_scratch1).view.junk (run_odd.sl.Hb_1 c M f b) = k1_pay9 X b := by
    unfold run_odd.sl.Hb_1
    rw [store_acc1, readAt_tile, readAt_tile, read_acc1, hf]
  rw [eb]
  iexact Hb

/-- The last point, which is odd. -/
theorem run_last (c : Dev nD) (i : grid1.Coords) (M : Memref sig .tc .vmem S256x128 .f32) (hM : M.IsWhole) (h1 : ¬ isFirst i) (h2 : ¬ isEven i) (h3 : isOdd i) (h4 : k1_cond4 i = 1#1)
    (f : Buf (Elt F) (M.view.loc (c : Thread nD τ))) (X a b : Vec F S256x128 .f32) (hf : M.view.read (Elt F) f = X) (g : Vec F S1x1 .f32) (Q : PUnit → sProp 𝕄) :
    iprop((M.view.loc (c : Thread nD τ) ↦{fullShare} f) ∗ outPts c g ∗ accPts0 c a ∗ accPts1 c b
      ∗ (iprop((M.view.loc (c : Thread nD τ) ↦{fullShare} f) ∗ outPts c (lossOf a (k1_pay9 X b)) ∗ accPts0 c a ∗ accPts1 c (k1_pay9 X b)) -∗ Q ⟨⟩))
    ⊢ wp frame (wpE (defs₀ (F := F)) 𝒱₀ (c : Thread nD τ) none) Set.univ
        (cc1__tc_combine i M hM (stage1_1 0) (hstage1_1 0) (Memref.whole cc1_scratch0) (Memref.isWhole_whole _) (Memref.whole cc1_scratch1) (Memref.isWhole_whole _)) Q := by
  iintro ⟨H0, Hg, Ha, Hb, Hk⟩
  sl_exec!
  sl_step
  iapply Hk
  isplitl [H0]; · iexact H0
  have eb : (Memref.whole cc1_scratch1).view.writes (Elt F) (Memref.whole cc1_scratch1).view.junk (run_last.sl.Hb_1 c M f b) = k1_pay9 X b := by
    unfold run_last.sl.Hb_1
    rw [store_acc1, readAt_tile, readAt_tile, read_acc1, hf]
  have eg : (Memref.whole cc1_stg1_0).view.writes (Elt F) (Memref.whole cc1_stg1_0).view.junk (run_last.sl.Hg_1 c M f a b) = lossOf a (k1_pay9 X b) := by
    unfold run_last.sl.Hg_1
    have ev : run_last.sl.v35 c M f b = k1_pay9 X b := by
      unfold run_last.sl.v35 View.readCov
      rw [readAt_tile, eb, read_acc1]
    rw [store_out, ev]
    unfold run_last.sl.r lossOf
    rw [ev, readAt_tile, read_acc0]
  rw [eb, eg]
  isplitl [Hg]; · iexact Hg
  isplitl [Ha]; · iexact Ha
  iexact Hb

end Cert.Proof.Lovasz

end
-- ==== Proof.Region.lean ====
/-
  The TensorCore call: the pipeline's 64 points. Before point `n` the two accumulators hold what the first `n` tiles
  of the 16384×128 array leave in them; the last point stores the loss of the two.
-/
module

public import proofs.«01_k».proof.Proof.Combine
public import Idealize.ShloMosaic.Lib.Pipeline.Regions
public import Idealize.ShloMosaic.Lib.Pipeline.Value

@[expose] public section

noncomputable section

namespace Cert.Proof.Lovasz

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The accumulators -/

/-- Tile `n` of the array (`n` taken modulo 64): its rows from `256 n` on. -/
def tileOf (H : Vec F S16384x128 .f32) (n : ℕ) : Vec F S256x128 .f32 := fun y =>
  H (Shape.pair (d := ![16384, 128]) ⟨256 * (n % 64) + (y 0).val, by
    have h : (y 0).val < 256 := (y 0).isLt
    show _ < 16384; omega⟩ (y 1))

/-- What point `n` leaves in the accumulators, of its tile and of what they held. -/
def next0 (n : ℕ) (X a : Vec F S256x128 .f32) : Vec F S256x128 .f32 := if n = 0 then k1_pay8 X k1_pay6 else if n % 2 = 0 then k1_pay8 X a else a
/-- The second accumulator after step `n`. -/
def next1 (n : ℕ) (X b : Vec F S256x128 .f32) : Vec F S256x128 .f32 := if n = 0 then k1_pay7 else if n % 2 = 0 then b else k1_pay9 X b

/-- The accumulators after the first `n` points. -/
def acc0 (H : Vec F S16384x128 .f32) : ℕ → Vec F S256x128 .f32
  | 0 => k1_pay6
  | n + 1 => next0 n (tileOf H n) (acc0 H n)
/-- The second accumulator before each step. -/
def acc1 (H : Vec F S16384x128 .f32) : ℕ → Vec F S256x128 .f32
  | 0 => k1_pay7
  | n + 1 => next1 n (tileOf H n) (acc1 H n)

/-- The call's result, of its operand. -/
def combined (H : Vec F S16384x128 .f32) : Vec F S1x1 .f32 := lossOf (acc0 H 64) (acc1 H 64)

/-! ## The pipeline's proof data -/

/-- The invariant before point `n`: the accumulators, at anything before the first point. -/
def accs (H : Vec F S16384x128 .f32) (c : Dev nD) (n : ℕ) : sProp 𝕄 :=
  iprop(∃ a b, ⌜n ≠ 0 → a = acc0 H n ∧ b = acc1 H n⌝ ∗ accPts0 c a ∗ accPts1 c b)

/-- The data on every core: the operand at `H`, the result's array at `z`; every recorded wait at level at most `B`. -/
def dats (H : Vec F S16384x128 .f32) (z : Vec F S1x1 .f32) (B : ℕ) (_ : Fin 1) (c : Dev nD) : Dat τ (Elt F) (HIx 1) ℕ UU ℕ cfg1 c where
  A w := match w with | ⟨0, _⟩ => H | ⟨1, _⟩ => z
  after w t := match w with | ⟨0, _⟩ => tileOf H t.val | ⟨1, _⟩ => combined H
  Φ t := accs H c t.val
  q _ := fullShare
  owed _ := 0
  recorded _ := {p | (K (F := F)).lev ((c : Thread nD τ), p.1) p.2 ≤ B}

variable (H : Vec F S16384x128 .f32) (z : Vec F S1x1 .f32) (B : ℕ)

/-- The tile the pipeline stages at a point. -/
theorem block_read (t : Fin cfg1.N) : ((cfg1.win 0).blk t).view.read (Elt F) (H : Buf (Elt F) (((0 : Dev nD) : Thread nD τ).loc main_v3)) = tileOf H t.val := by
  funext y
  show H _ = H _
  congr 1
  funext a
  apply Fin.ext
  have hc : win1_0.index t 0 = t.val := by
    show (BitVec.ofNat 32 ((grid1.coords t) 0).val).toNat = t.val
    have := coords_val t
    have hN : t.val < 64 := lt_of_lt_of_eq t.isLt N_1
    rw [this, BitVec.toNat_ofNat, Nat.mod_eq_of_lt (by omega)]
  have hN : t.val < 64 := lt_of_lt_of_eq t.isLt N_1
  fin_cases a
  · refine (Pipeline.Window.rect_emb_val win1_0 t y 0 rfl).trans ?_
    rw [hc]
    show t.val * 256 + (y 0).val = 256 * (t.val % 64) + (y 0).val
    omega
  · refine (Pipeline.Window.rect_emb_val win1_0 t y 1 rfl).trans ?_
    show 0 * 128 + (y 1).val = (y 1).val
    omega

/-- The staged tile is there when the body runs. -/
theorem before_tile (c : Dev nD) (t : Fin cfg1.N) (d : (cfg1.win 0).block.Idx → Elt F (cfg1.win 0).elt) :
    (dats H z B 0 c).before 0 t d = tileOf H t.val := by
  unfold Dat.before
  rw [if_pos (fetch1_0 t)]
  exact block_read H t

/-- The staged tile's buffer, held whole. -/
theorem owns_tile (c : Dev nD) (s : Fin 2) (X : Vec F S256x128 .f32) :
    (owns (c : Thread nD τ) (stage1_0 s) fullShare X : sProp 𝕄)
      = iprop(∃ f : Buf (Elt F) ((stage1_0 s).view.loc (c : Thread nD τ)), ⌜(stage1_0 s).view.read (Elt F) f = X⌝ ∗ ((stage1_0 s).view.loc (c : Thread nD τ) ↦{fullShare} f)) := by
  unfold owns
  rw [show (stage1_0 s).view.set = Finset.univ from match s with | 0 => View.set_whole _ | 1 => View.set_whole _]

/-- The result's staging buffer, held whole. -/
theorem owns_out (c : Dev nD) (X : Vec F S1x1 .f32) : (owns (c : Thread nD τ) (stage1_1 0) fullShare X : sProp 𝕄) = outPts c X := by
  rw [show stage1_1 0 = Memref.whole cc1_stg1_0 from rfl, owns_whole]

/-- The result, through the last point's own steps. -/
theorem combined_last {n : ℕ} (hn : n = 63) : lossOf (acc0 H n) (k1_pay9 (tileOf H n) (acc1 H n)) = combined H := by
  have h0 : acc0 H (63 + 1) = next0 63 (tileOf H 63) (acc0 H 63) := rfl
  have h1 : acc1 H (63 + 1) = next1 63 (tileOf H 63) (acc1 H 63) := rfl
  subst hn
  unfold combined
  rw [h0, h1, next0, next1, if_neg (by omega), if_neg (by omega), if_neg (by omega), if_neg (by omega)]

/-- The body at a point, its second staging buffer the only one there is. -/
theorem bodyAt1_eq (t : Fin cfg1.N) : (bodyAt1 t : Prog (TpuEff nD τ sig (Elt F) Λ₀ .tc) PUnit)
    = cc1__tc_combine (grid1.coords t) (stage1_0 ((cfg1.slots t 0).cast nbuf1_0)) (hstage1_0 ((cfg1.slots t 0).cast nbuf1_0)) (stage1_1 0) (hstage1_1 0) (Memref.whole cc1_scratch0) (Memref.isWhole_whole _) (Memref.whole cc1_scratch1) (Memref.isWhole_whole _) := by
  have h : (cfg1.slots t 1).cast nbuf1_1 = (0 : Fin 1) := Subsingleton.elim _ _
  show cc1__tc_combine (grid1.coords t) (stage1_0 ((cfg1.slots t 0).cast nbuf1_0)) (hstage1_0 ((cfg1.slots t 0).cast nbuf1_0)) (stage1_1 ((cfg1.slots t 1).cast nbuf1_1)) (hstage1_1 ((cfg1.slots t 1).cast nbuf1_1)) (Memref.whole cc1_scratch0) (Memref.isWhole_whole _) (Memref.whole cc1_scratch1) (Memref.isWhole_whole _) = _
  rw [h]

/-- Each point's body, from the invariant before it to the invariant after it. -/
theorem body_obligation (c : Dev nD) : BodyObligation (dats H z B 0 c) (defs₀ (F := F)) 𝒱₀ none Set.univ := fun t => by
  have hN : t.val < 64 := lt_of_lt_of_eq t.isLt N_1
  rw [bigSep_W1, bigSep_W1]
  have e1 := first_iff t
  have e2 := even_iff t
  have e3 := odd_iff t
  have e4 := last_iff t
  rw [show (dats H z B 0 c).Φ t.castSucc = accs H c t.val from rfl, show (dats H z B 0 c).Φ t.succ = accs H c (t.val + 1) from rfl]
  unfold accs Dat.owesAt Pipeline.owesWithin
  rw [show (dats H z B 0 c).owed t.castSucc = 0 from rfl, show (dats H z B 0 c).owed t.succ = 0 from rfl]
  change _ ⊢ wp _ _ _ (bodyAt1 t) _
  rw [bodyAt1_eq]
  show _ ⊢ wp frame (wpE (defs₀ (F := F)) 𝒱₀ (c : Thread nD τ) none) Set.univ _ _
  generalize cfg1.slots t 1 = s1
  generalize cfg1.slots t 0 = s0
  obtain rfl : s1 = (0 : Fin 1) := Subsingleton.elim _ _
  have hW' : ∀ {W : Waits sig (HIx 1)}, (↑W ⊆ (dats H z B 0 c).bound none t.castSucc) → ↑W ⊆ (dats H z B 0 c).bound none t.succ := fun h => h
  by_cases h63 : t.val = 63
  · have hidle : idle1 1 (grid1.coords t) = false := by
      show (!(k1_cond4 (grid1.coords t) == 1#1)) = false
      rw [e4.mpr h63]; rfl
    simp only [hidle]
    iintro ⟨⟨%a, %b, %hab, Ha, Hb⟩, ⟨%W, %hW, HO⟩, ⟨%d0, H0⟩, ⟨%d1, H1⟩⟩
    ihave H0 := (Entails.of_eq (owns_tile c s0 _)) $$ H0
    icases H0 with ⟨%f, %hf, H0⟩
    ihave H1 := (Entails.of_eq (owns_out c _)) $$ H1
    rw [before_tile] at hf
    obtain ⟨rfl, rfl⟩ := hab (by omega)
    iapply (run_last c (grid1.coords t) (stage1_0 s0) (hstage1_0 s0) (by rw [e1]; omega) (by rw [e2]; omega) (by rw [e3]; omega) (e4.mpr h63) f (tileOf H t.val) (acc0 H t.val) (acc1 H t.val) hf _)
    isplitl [H0]; · iexact H0
    isplitl [H1]; · iexact H1
    isplitl [Ha]; · iexact Ha
    isplitl [Hb]; · iexact Hb
    iintro ⟨H0, H1, Ha, Hb⟩
    isplitl [Ha Hb]
    · iexists _, _; isplitr; swap
      · isplitl [Ha] <;> iassumption
      ipureintro
      intro _
      show acc0 H t.val = next0 t.val _ _ ∧ k1_pay9 _ _ = next1 t.val _ _
      unfold next0 next1
      rw [if_neg (by omega), if_neg (by omega), if_neg (by omega), if_neg (by omega)]
      exact ⟨rfl, rfl⟩
    isplitl [HO]
    · iexists W; isplitr; · ipureintro; exact hW' hW
      iexact HO
    isplitl [H0]
    · iapply (Entails.of_eq (owns_tile c s0 _).symm)
      iexists f; isplitr; · ipureintro; exact hf
      iexact H0
    iapply (Entails.of_eq (owns_out c _).symm)
    rw [combined_last H h63]
    iexact H1
  · have hidle : idle1 1 (grid1.coords t) = true := by
      show (!(k1_cond4 (grid1.coords t) == 1#1)) = true
      have : ¬ k1_cond4 (grid1.coords t) = 1#1 := fun h => h63 (e4.mp h)
      simpa using this
    have hflush : (cfg1.win 1).flush t = false := by
      have := flush1_1 t
      rw [Nat.mod_eq_of_lt hN] at this
      exact Bool.eq_false_iff.mpr fun h => h63 (this.mp h)
    simp only [hidle, hflush]
    iintro ⟨⟨%a, %b, %hab, Ha, Hb⟩, ⟨%W, %hW, HO⟩, ⟨%d0, H0⟩, H1⟩
    ihave H0 := (Entails.of_eq (owns_tile c s0 _)) $$ H0
    icases H0 with ⟨%f, %hf, H0⟩
    rw [before_tile] at hf
    have hfin : ∀ a' b', (a' = next0 t.val (tileOf H t.val) (acc0 H t.val) ∧ b' = next1 t.val (tileOf H t.val) (acc1 H t.val)) →
        iprop((((stage1_0 s0).view.loc (c : Thread nD τ)) ↦{fullShare} f) ∗ owes (c : Thread nD τ) 0 W ∗ (∃ d, owns (c : Thread nD τ) (stage1_1 0) fullShare ((dats H z B 0 c).before 1 t d)) ∗ accPts0 c a' ∗ accPts1 c b')
          ⊢ (iprop((∃ a b, ⌜t.val + 1 ≠ 0 → a = acc0 H (t.val + 1) ∧ b = acc1 H (t.val + 1)⌝ ∗ accPts0 c a ∗ accPts1 c b)
            ∗ (∃ W, ⌜↑W ⊆ (dats H z B 0 c).bound none t.succ⌝ ∗ owes (c : Thread nD τ) 0 W)
            ∗ owns (c : Thread nD τ) (stage1_0 s0) fullShare (tileOf H t.val)
            ∗ ∃ d, owns (c : Thread nD τ) (stage1_1 0) fullShare ((dats H z B 0 c).before 1 t d)) : sProp 𝕄) := by
      intro a' b' h
      iintro ⟨H0, HO, H1, Ha, Hb⟩
      isplitl [Ha Hb]
      · iexists _, _; isplitr; swap
        · isplitl [Ha] <;> iassumption
        ipureintro; exact fun _ => h
      isplitl [HO]
      · iexists W; isplitr; · ipureintro; exact hW' hW
        iexact HO
      isplitl [H0]
      · iapply (Entails.of_eq (owns_tile c s0 _).symm)
        iexists f; isplitr; · ipureintro; exact hf
        iexact H0
      iexact H1
    by_cases h0 : t.val = 0
    · iapply (run_first c (grid1.coords t) (stage1_0 s0) (hstage1_0 s0) (e1.mpr h0) (e2.mpr (by omega)) (by rw [e3]; omega) (by rw [e4]; omega) f (tileOf H t.val) _ _ hf)
      isplitl [H0]; · iexact H0
      isplitl [Ha]; · iexact Ha
      isplitl [Hb]; · iexact Hb
      iintro ⟨H0, Ha, Hb⟩
      iapply (hfin _ _ (by unfold next0 next1; rw [if_pos h0, if_pos h0]; exact ⟨rfl, rfl⟩))
      isplitl [H0]; · iexact H0
      isplitl [HO]; · iexact HO
      isplitl [H1]; · iexact H1
      isplitl [Ha] <;> iassumption
    obtain ⟨rfl, rfl⟩ := hab h0
    by_cases hp : t.val % 2 = 0
    · iapply (run_even c (grid1.coords t) (stage1_0 s0) (hstage1_0 s0) (by rw [e1]; omega) (e2.mpr hp) (by rw [e3]; omega) (by rw [e4]; omega) f (tileOf H t.val) _ _ hf)
      isplitl [H0]; · iexact H0
      isplitl [Ha]; · iexact Ha
      isplitl [Hb]; · iexact Hb
      iintro ⟨H0, Ha, Hb⟩
      iapply (hfin _ _ (by unfold next0 next1; rw [if_neg h0, if_pos hp, if_neg h0, if_pos hp]; exact ⟨rfl, rfl⟩))
      isplitl [H0]; · iexact H0
      isplitl [HO]; · iexact HO
      isplitl [H1]; · iexact H1
      isplitl [Ha] <;> iassumption
    · iapply (run_odd c (grid1.coords t) (stage1_0 s0) (hstage1_0 s0) (by rw [e1]; omega) (by rw [e2]; omega) (by rw [e3]; omega) (by rw [e4]; omega) f (tileOf H t.val) _ _ hf)
      isplitl [H0]; · iexact H0
      isplitl [Ha]; · iexact Ha
      isplitl [Hb]; · iexact Hb
      iintro ⟨H0, Ha, Hb⟩
      iapply (hfin _ _ (by unfold next0 next1; rw [if_neg h0, if_neg hp, if_neg h0, if_neg hp]; exact ⟨rfl, rfl⟩))
      isplitl [H0]; · iexact H0
      isplitl [HO]; · iexact HO
      isplitl [H1]; · iexact H1
      isplitl [Ha] <;> iassumption

/-! ## The call as a region of @main -/

/-- The call's two arrays, held one by one. -/
theorem arrays_two (c : Dev nD) (G : (w : Fin cfg1.W) → Buf (Elt F) ((cfg1.win w).arr.view.loc (c : Thread nD τ))) :
    ((dats H z B 0 c).arrays G : sProp 𝕄)
      = iprop((((c : Thread nD τ).loc main_v3) ↦{fullShare} G 0) ∗ (((c : Thread nD τ).loc main_v4) ↦{fullShare} G 1)) := by
  unfold Pipeline.Dat.arrays
  rw [bigSep_W1]
  rw [(dats H z B 0 c).share_full (fun _ => rfl) 0, (dats H z B 0 c).share_full (fun _ => rfl) 1]
  rw [show (cfg1.win 0).arr.view.set = Finset.univ from View.set_whole _, show (cfg1.win 1).arr.view.set = Finset.univ from View.set_whole _]

/-- The result's one block is its whole array. -/
theorem out_block (t : Fin cfg1.N) (i : S1x1.Idx) : i ∈ ((cfg1.win 1).blk t).view.set := by
  have e : ((cfg1.win 1).blk t).view.emb (i : S1x1.Idx) = i := by
    funext a
    apply Fin.ext
    fin_cases a
    · refine (Pipeline.Window.rect_emb_val win1_1 t i 0 rfl).trans ?_
      show 0 * 1 + (i 0).val = (i 0).val; omega
    · refine (Pipeline.Window.rect_emb_val win1_1 t i 1 rfl).trans ?_
      show 0 * 1 + (i 1).val = (i 1).val; omega
  have h := ((cfg1.win 1).blk t).view.emb_mem_set (i : S1x1.Idx)
  rwa [e] at h

/-- The result's array ends at the loss. -/
theorem out_final (c : Dev nD) : (dats H z B 0 c).arrAt 1 cfg1.N = combined H := by
  refine (dats H z B 0 c).arrAt_eq_of_cover 1 (combined H) (fun t _ => ?_) fun i => ⟨⟨63, by rw [show cfg1.N = 64 from N_1]; omega⟩, ?_, out_block _ i⟩
  · funext y
    have same : ∀ i j : S1x1.Idx, combined H i = combined H j := fun i j =>
      congrArg (combined H) (funext fun a => by fin_cases a <;> exact Subsingleton.elim (α := Fin 1) _ _)
    exact same y (((cfg1.win 1).blk t).view.emb y)
  · exact (flush1_1 _).mpr rfl

/-- The operand's array is as it was. -/
theorem in_final (c : Dev nD) (n : ℕ) : (dats H z B 0 c).arrAt 0 n = H := (dats H z B 0 c).arrAt_in 0 rfl n

/-- The call has no prefetched table. -/
abbrev adm : (p : Fin 1) → (pcfgs (F := F) p).Adm := fun p => (cfgs p).toPCfg_adm

/-- Nothing owed, and every recorded wait at level at most `B`. -/
def idleAt (B : ℕ) (c : Dev nD) : sProp 𝕄 := iprop(∃ W, ⌜(K (F := F)).WBelow (T c) W B⌝ ∗ owes (T c) 0 W)

set_option backward.isDefEq.respectTransparency.types false in
/-- The region: entered with the operand at `H` and the result's array at `z`, left with the result at the loss. -/
def reg1 : Pipeline.RegionSeg (pcfgs (F := F)) adm (dats H z B) none defs₀ 𝒱₀ (K (F := F)).L (K (F := F)).lev 0 where
  win := launch1.win.to₀
  block_pos := launch1.block_pos
  stage_whole := launch1.stage_whole
  K := PEmpty
  osem := fun k => nomatch k
  ho := Pipeline.OwnSemFacts.none _
  hbody c := (body_obligation H z B c).loose
  hwaits := Pipeline.hwaits_of_owed_zero _ _ _ _ _ _ 0 fun _ _ => rfl
  pre c := iprop((((c : Thread nD τ).loc main_v3) ↦{fullShare} H) ∗ (((c : Thread nD τ).loc main_v4) ↦{fullShare} z) ∗ idleAt (F := F) B c)
  post c := iprop((((c : Thread nD τ).loc main_v3) ↦{fullShare} H) ∗ (((c : Thread nD τ).loc main_v4) ↦{fullShare} combined H) ∗ idleAt (F := F) B c)
  X c := iprop(emp)
  Y c := iprop(emp)
  Z c := iprop(emp)
  hentry c := by
    rw [arrays_two]
    unfold idleAt
    iintro ⟨⟨H3, H4, ⟨%W, %hW, HO⟩⟩, -, -⟩
    imodintro
    isplitl [H3 H4]
    · isplitl [H3]
      · iexact H3
      · iexact H4
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats H z B 0 c).Φ 0 = accs H c 0 from rfl, scopedRest1_eq]; unfold accs
    iintro ⟨-, -, ⟨%a, Ha⟩, ⟨%b, Hb⟩⟩
    iexists a, b
    isplitr; · ipureintro; exact fun h => absurd rfl h
    isplitl [Ha] <;> iassumption
  hout c := by
    rw [show (dats H z B 0 c).Φ (Fin.last cfg1.N) = accs H c cfg1.N from rfl]; unfold accs
    rw [scopedRest1_eq]
    iintro ⟨%a, %b, -, Ha, Hb⟩
    isplitr; · iempintro
    isplitr; · unfold Pipeline.ownSems0; rw [show (Finset.univ : Finset PEmpty) = ∅ from rfl, BI.bigSep_empty]; iempintro
    isplitl [Ha]
    · iexists a; iexact Ha
    · iexists b; iexact Hb
  hexit c := by
    rw [arrays_two, out_final, in_final]
    unfold idleAt
    iintro ⟨⟨H3, H4⟩, HO, -, -⟩
    imodintro
    isplitl [H3]; · iexact H3
    isplitl [H4]; · iexact H4
    unfold Pipeline.Dat.owesAt Pipeline.owesWithin
    icases HO with ⟨%W, %hW, HO⟩
    iexists W; isplitr
    · ipureintro
      intro p hp
      rcases hW hp with h | h
      · exact h
      · obtain ⟨w, s, rfl⟩ := h
        exact Nat.zero_le _
    iexact HO

end Cert.Proof.Lovasz

end
-- ==== Proof.Launch.lean ====
/-
  The whole program's run: the SparseCore call's 32 tasks dealt their shares, and @main on the TensorCore — two
  reshapes, that call, a reshape, the TensorCore call, a reshape.
-/
module

public import proofs.«01_k».proof.Proof.Tile
public import proofs.«01_k».proof.Proof.Region

@[expose] public section

noncomputable section

namespace Cert.Proof.Lovasz

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held wp_hlo_within)
open Idealize.ShloMosaic.Transfers (dealOf pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's arrays -/

/-- The scores and the labels, flattened. -/
def flatX (d : Dev nD) : Vec F S4194304 .f32 := shapeCast S4194304 (m ((SparseCore.T d).loc main_arg0)) shapeCasts_S16x512x512_S4194304
/-- The labels, flat. -/
def flatT (d : Dev nD) : Vec F S4194304 .i32 := shapeCast S4194304 (m ((SparseCore.T d).loc main_arg1)) shapeCasts_S16x512x512_S4194304

/-- What the launch asks of the labels. -/
def LabelsOK : Prop := ∀ d : Dev nD, Labels01 (flatT m d)

/-! ## The tasks' shares -/

/-- The histogram of subcore `i` of SparseCore `c`. -/
def widOf (c : Fin 2) (i : Fin 16) : Fin 32 := ⟨2 * i.val + c.val, by omega⟩

/-- The share of the two operands a SparseCore holds, and the one a subcore of it does. -/
def coreShare (c : Fin 2) : PosShare TreeShare := dealOf fullShare Finset.univ c
/-- The share of the inputs that one subcore reads. -/
def taskShare (c : Fin 2) (i : Fin 16) : PosShare TreeShare := dealOf (coreShare c) Finset.univ i

/-- The two operands, at a share. -/
def ins (d : Dev nD) (q : PosShare TreeShare) : sProp 𝕄 := iprop((xLoc d ↦{q} flatX m d) ∗ (tLoc d ↦{q} flatT m d))

/-- A row of the result as the launch finds it, and as its task leaves it. -/
def rowIn (d : Dev nD) (w : Fin 32) : sProp 𝕄 := oPts d w (m (oLoc d))
/-- A subcore's histogram row, counted. -/
def rowOut (d : Dev nD) (w : Fin 32) : sProp 𝕄 := iprop(∃ f, ⌜RowOK (flatX m d) (flatT m d) w f⌝ ∗ oPts d w f)

/-- What a SparseCore is handed and hands back, and what a task is handed and hands back. -/
def coreIn (d : Dev nD) (c : Fin 2) : sProp 𝕄 := iprop(ins m d (coreShare c) ∗ bigSep Finset.univ fun i : Fin 16 => rowIn m d (widOf c i))
/-- What a SparseCore hands back. -/
def coreOut (d : Dev nD) (c : Fin 2) : sProp 𝕄 := iprop(ins m d (coreShare c) ∗ bigSep Finset.univ fun i : Fin 16 => rowOut m d (widOf c i))
/-- What a subcore is handed. -/
def taskIn (d : Dev nD) (c : Fin 2) (i : Fin 16) : sProp 𝕄 := iprop(ins m d (taskShare c i) ∗ rowIn m d (widOf c i))
/-- What a subcore hands back. -/
def taskOut (d : Dev nD) (c : Fin 2) (i : Fin 16) : sProp 𝕄 := iprop(ins m d (taskShare c i) ∗ rowOut m d (widOf c i))

/-- The inputs' shares can be kept in an invariant. -/
instance ins_storable (d : Dev nD) (q : PosShare TreeShare) : BI.Storable (upEmb : UEmb _ 𝕄) (ins m d q) := by unfold ins; infer_instance
/-- So can a row before its task, -/
instance rowIn_storable (d : Dev nD) (w : Fin 32) : BI.Storable (upEmb : UEmb _ 𝕄) (rowIn m d w) := by unfold rowIn; infer_instance
/-- a row after it, -/
instance rowOut_storable (d : Dev nD) (w : Fin 32) : BI.Storable (upEmb : UEmb _ 𝕄) (rowOut m d w) := by unfold rowOut; infer_instance
/-- what a SparseCore is handed, -/
instance coreIn_storable (d : Dev nD) (c : Fin 2) : BI.Storable (upEmb : UEmb _ 𝕄) (coreIn m d c) := by unfold coreIn; infer_instance
/-- what it hands back, -/
instance coreOut_storable (d : Dev nD) (c : Fin 2) : BI.Storable (upEmb : UEmb _ 𝕄) (coreOut m d c) := by unfold coreOut; infer_instance
/-- what a subcore is handed, -/
instance taskIn_storable (d : Dev nD) (c : Fin 2) (i : Fin 16) : BI.Storable (upEmb : UEmb _ 𝕄) (taskIn m d c i) := by unfold taskIn; infer_instance
/-- and what it hands back. -/
instance taskOut_storable (d : Dev nD) (c : Fin 2) (i : Fin 16) : BI.Storable (upEmb : UEmb _ 𝕄) (taskOut m d c i) := by unfold taskOut; infer_instance

/-- The call runs on two SparseCores. -/
theorem nCore_zero : (K (F := F)).nCore 0 = 2 := rfl
/-- It runs on sixteen subcores of each. -/
theorem nSub_zero : (K (F := F)).nSub 0 = 16 := rfl

/-- What the call's handshakes carry. -/
def P : (K (F := F)).Pay (nD := nD) (Val := Elt F) (Name := ℕ) (U := UU) where
  st q d c := match q with | 0 => coreIn m d (Fin.cast nCore_zero c)
  dn q d c := match q with | 0 => coreOut m d (Fin.cast nCore_zero c)
  go q d c i := match q with | 0 => taskIn m d (Fin.cast nCore_zero c) (Fin.cast nSub_zero i)
  td q d c i := match q with | 0 => taskOut m d (Fin.cast nCore_zero c) (Fin.cast nSub_zero i)
  x _ _ := iprop(emp)

/-- Everything the handshakes carry can be kept in an invariant. -/
instance P_storable : (P (F := F) m).IsStorable where
  st q d c := match q with | 0 => coreIn_storable m d (Fin.cast nCore_zero c)
  dn q d c := match q with | 0 => coreOut_storable m d (Fin.cast nCore_zero c)
  go q d c i := match q with | 0 => taskIn_storable m d (Fin.cast nCore_zero c) (Fin.cast nSub_zero i)
  td q d c i := match q with | 0 => taskOut_storable m d (Fin.cast nCore_zero c) (Fin.cast nSub_zero i)

/-! ## The tasks -/

/-- Subcore `s` of SparseCore `c`, as the kernel's grid coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs. -/
theorem defs₀_vector (c : Fin τ.nSC) (s : Fin τ.nSub) :
    defs₀ (F := F) (.scVector c s) 0 ()
      = SparseCore.onTile hcore0 hsub0 (fun c s => cc0__sc_hist (coordsV c s)
          (Memref.whole main_v0_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0) ⟨⟩ c s := rfl

/-- A task's end, as the launch states it. -/
theorem obl_post {thr : Thread nD τ} {A A' B C : sProp 𝕄} {O : CellTallies nD τ sig (HIx 1)} {W : Waits sig (HIx 1)} {q : Fin 1} (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

/-- Handed its shares, the task of subcore `i` of SparseCore `c` runs. -/
theorem task_run (hm : LabelsOK m) (d : Dev nD) (c : Fin 2) (i : Fin 16) (O : CellTallies nD τ sig (HIx 1)) (W : Waits sig (HIx 1)) (hO : ∀ g, O g none = 0) (q : Fin 1) :
    iprop(levAts (K (F := F)).L (K (F := F)).lev ∗ emp ∗ taskIn m d c i
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0__sc_hist (coordsV c i)
          (Memref.whole main_v0_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scoped0)
          fun _ => iprop(taskOut m d c i
            ∗ scopedBufs (thr d (coordsV c i)) ∗ scopedSems0 (thr d (coordsV c i)) ∗ ∃ W', ⌜∀ p ∈ W', p ∈ W ∨ p.2 = none ∨ p.2 = some q⌝ ∗ owes (thr d (coordsV c i)) O W') := by
  have hw : wid (coordsV c i) = widOf c i := rfl
  have h1 : taskIn m d c i ⊢ (iprop((xLoc d ↦{taskShare c i} flatX m d) ∗ (tLoc d ↦{taskShare c i} flatT m d) ∗ oPts d (wid (coordsV c i)) (m (oLoc d))) : sProp 𝕄) := by
    unfold taskIn ins rowIn
    rw [hw]
    iintro ⟨⟨Hx, Ht⟩, Hr⟩
    isplitl [Hx]; · iexact Hx
    isplitl [Ht]; · iexact Ht
    iexact Hr
  have h2 : (iprop((xLoc d ↦{taskShare c i} flatX m d) ∗ (tLoc d ↦{taskShare c i} flatT m d) ∗ ∃ f, ⌜RowOK (flatX m d) (flatT m d) (wid (coordsV c i)) f⌝ ∗ oPts d (wid (coordsV c i)) f) : sProp 𝕄) ⊢ taskOut m d c i := by
    unfold taskOut ins rowOut
    rw [hw]
    iintro ⟨Hx, Ht, Hr⟩
    isplitl [Hx Ht]
    · isplitl [Hx]; · iexact Hx
      iexact Ht
    iexact Hr
  exact (sep_mono_right (sep_mono_right (sep_mono_left h1))).trans
    ((tile_body d (coordsV c i) (taskShare c i) (flatX m d) (flatT m d) (hm d) (m (oLoc d)) O W hO).trans (wp_mono frame _ _ fun _ => obl_post h2))

set_option maxRecDepth 1024 in
/-- Each task meets the launch's obligation. -/
theorem tileObl (hm : LabelsOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact task_run m hm d (Fin.cast nCore_zero c) (Fin.cast nSub_zero i) O W hO 0

/-- The operands at a share are the operands at the shares it is dealt into. -/
theorem ins_deal {n : ℕ} [NeZero n] (d : Dev nD) (q : PosShare TreeShare) :
    (ins m d q : sProp 𝕄) = bigSep Finset.univ fun i : Fin n => ins m d (dealOf q Finset.univ i) := by
  unfold ins
  rw [bigSep_sep', ← pointsTo_deal Finset.univ ⟨0, Finset.mem_univ _⟩, ← pointsTo_deal Finset.univ ⟨0, Finset.mem_univ _⟩]

/-- A SparseCore's operands dealt to its tasks, and its tasks' results gathered. -/
theorem vecSplit : (K (F := F)).VecSplit' (P m) 0 := by
  intro d c
  show coreIn m d (Fin.cast nCore_zero c) ⊢ |={Set.univ}=> iprop(
      (bigSep Finset.univ fun i : Fin 16 => taskIn m d (Fin.cast nCore_zero c) i)
      ∗ ((bigSep Finset.univ fun i : Fin 16 => taskOut m d (Fin.cast nCore_zero c) i) -∗ coreOut m d (Fin.cast nCore_zero c)))
  unfold coreIn coreOut taskIn taskOut taskShare
  rw [bigSep_sep', bigSep_sep', ← ins_deal (n := 16)]
  iintro H; imodintro
  isplitl [H]; · iexact H
  iintro H
  iexact H

/-! ## The two SparseCores together -/

/-- The row of a task, of the 32. -/
def rowP (p : Fin 2 × Fin 16) : Finset S32x65536.Idx := rowSet (widOf p.1 p.2)

/-- Two subcores' rows are disjoint. -/
theorem rowP_disjoint : ∀ p ∈ (Finset.univ : Finset (Fin 2 × Fin 16)), ∀ q ∈ (Finset.univ : Finset (Fin 2 × Fin 16)), p ≠ q → Disjoint (rowP p) (rowP q) := by
  intro p _ q _ h
  refine Finset.disjoint_left.mpr fun y hp hq => h ?_
  have h1 : (y (0 : Fin 2)).val = 2 * p.2.val + p.1.val := (Finset.mem_filter.mp hp).2
  have h2 : (y (0 : Fin 2)).val = 2 * q.2.val + q.1.val := (Finset.mem_filter.mp hq).2
  have := p.1.isLt; have := q.1.isLt
  exact Prod.ext (Fin.ext (by omega)) (Fin.ext (by omega))

/-- The subcores' rows are the whole output. -/
theorem rowP_cover : (Finset.univ : Finset (Fin 2 × Fin 16)).biUnion rowP = Finset.univ := by
  refine Finset.eq_univ_iff_forall.mpr fun y => ?_
  have hy : (y (0 : Fin 2)).val < 32 := (y (0 : Fin 2)).isLt
  refine Finset.mem_biUnion.mpr ⟨(⟨(y (0 : Fin 2)).val % 2, by omega⟩, ⟨(y (0 : Fin 2)).val / 2, by omega⟩), Finset.mem_univ _, ?_⟩
  refine Finset.mem_filter.mpr ⟨Finset.mem_univ _, ?_⟩
  show (y (0 : Fin 2)).val = 2 * ((y (0 : Fin 2)).val / 2) + (y (0 : Fin 2)).val % 2
  omega

/-- A histogram depends on its own row of the array only. -/
theorem RowOK.congr {x : Vec F S4194304 .f32} {t : Vec F S4194304 .i32} {w : Fin 32} {f g : Vec F S32x65536 .f32} (h : RowOK x t w f)
    (e : ∀ y ∈ rowSet w, g y = f y) : RowOK x t w g := by
  unfold RowOK at h ⊢
  rwa [show (fun b => g (cell w b)) = fun b => f (cell w b) from funext fun b => e _ (Finset.mem_filter.mpr ⟨Finset.mem_univ _, rfl⟩)]

/-- What the call takes: the operands and the result, whole. -/
theorem st_eq (d : Dev nD) : (bigSep Finset.univ fun c : Fin ((K (F := F)).nCore 0) => (P m).st 0 d c)
    = iprop(ins m d fullShare ∗ (oLoc d ↦{fullShare} m (oLoc d))) := by
  show (bigSep (Finset.univ : Finset (Fin 2)) fun c => coreIn m d c) = _
  unfold coreIn coreShare
  rw [bigSep_sep', ← ins_deal (n := 2)]
  congr 1
  rw [← rowP_cover, pointsTo_biUnion Finset.univ (ℓ := oLoc d) rowP rowP_disjoint, bigSep_univ_prod]
  rfl

/-- What the call hands back: the operands, and the result with every row its task's histogram. -/
theorem dn_elim (d : Dev nD) : (bigSep Finset.univ fun c : Fin ((K (F := F)).nCore 0) => (P m).dn 0 d c)
    ⊢ (iprop(ins m d fullShare ∗ ∃ h, ⌜∀ w, RowOK (flatX m d) (flatT m d) w h⌝ ∗ (oLoc d ↦{fullShare} h)) : sProp 𝕄) := by
  show (bigSep (Finset.univ : Finset (Fin 2)) fun c => coreOut m d c) ⊢ _
  unfold coreOut coreShare
  rw [bigSep_sep', ← ins_deal (n := 2)]
  refine sep_mono_right ?_
  have e : (bigSep Finset.univ fun c : Fin 2 => bigSep Finset.univ fun i : Fin 16 => rowOut m d (widOf c i))
      = (bigSep Finset.univ fun p : Fin 2 × Fin 16 => rowOut m d (widOf p.1 p.2) : sProp 𝕄) := by rw [bigSep_univ_prod]
  rw [e]
  unfold rowOut
  haveI : Nonempty (Vec F S32x65536 .f32) := ⟨m (oLoc d)⟩
  refine (bigSep_exists_pi Finset.univ _).trans ?_
  iintro ⟨%fs, H⟩
  ihave H := (bigSep_pure_sep Finset.univ _ _) $$ H
  icases H with ⟨%hf, H⟩
  ihave H := (pointsTo_biUnion_join (ℓ := oLoc d) (q := fullShare) Finset.univ rowP fs (fs 0) rowP_disjoint) $$ [H]
  · iexact H
  icases H with ⟨%g, %hg, H⟩
  rw [rowP_cover]
  iexists g; isplitr
  · ipureintro
    intro w
    have hw : w = widOf ⟨w.val % 2, by omega⟩ ⟨w.val / 2, by omega⟩ := Fin.ext (by show w.val = 2 * (w.val / 2) + w.val % 2; omega)
    rw [hw]
    exact (hf _ (Finset.mem_univ (⟨w.val % 2, by omega⟩, ⟨w.val / 2, by omega⟩))).congr (hg _ (Finset.mem_univ _))
  iexact H

/-! ## The launch's ghost state -/

/-- The pipelined call's cells are distinct, read off its configuration. -/
theorem phinj : Function.Injective (Pipeline.cellOf (nD := nD) (τ := τ) (Pipeline.pin (pcfgs (F := F)) adm)) := cellOf_inj

/-- The launch element: the handshakes' rounds and the pipelined call's. -/
def u₀ : UU := (initOf (K (F := F)).hsCells (K (F := F)).hsToks,
  (initOf (Pipeline.cells (Pipeline.pin (pcfgs (F := F)) adm) (phinj (F := F))) (Pipeline.launchToks (Pipeline.pin (pcfgs (F := F)) adm) (phinj (F := F))), 1))

/-- What the launch deals each TensorCore for its pipelined call. -/
def G (d : Dev nD) : sProp 𝕄 := iprop(Pipeline.cellsGhost (Pipeline.pin (pcfgs (F := F)) adm) EP 0 d ∗ Pipeline.toksInit (Pipeline.pin (pcfgs (F := F)) adm) EP 0 d)

/-- The launch's element splits into the handshakes' part and the pipelined call's. -/
theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- The launch's element gives the handshakes' rounds and the pipelined call's. -/
theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP phinj) $$ HP with ⟨Hg, Ht⟩
  imodintro
  isplitl [HH]; · iexact HH
  isplitl [Hg Ht]
  · unfold G
    rw [bigSep_sep']
    simp only [bigSep_univ_of_subsingleton (0 : Fin 1)]
    isplitl [Hg]
    · iexact Hg
    · iexact Ht
  rw [show (bigSep Finset.univ fun thr : Thread nD τ => bigSep Finset.univ fun q : Fin 1 => (P m).x q thr) = (iprop(emp) : sProp 𝕄) from by
    show (bigSep Finset.univ fun _ : Thread nD τ => bigSep Finset.univ fun _ : Fin 1 => (iprop(emp) : sProp 𝕄)) = iprop(emp)
    exact (bigSep_congr fun _ _ => bigSep_emp_const _).trans (bigSep_emp_const _)]
  iempintro

/-! ## @main on the TensorCore -/

/-- A reshape, from the two buffers it names. -/
theorem reshape_step {x y : Ref sig .tc} {he : x.ty.elt = y.ty.elt} {hn : x.ty.shape.ShapeCasts y.ty.shape}
    {hx : x.space ≠ .host ∧ (x : DevRef τ sig).isScoped = false} {hy : y.space ≠ .host ∧ (y : DevRef τ sig).isScoped = false}
    (m : (ℓ : Loc nD τ sig) → Buf (Elt F) ℓ) (hxy : (x : DevRef τ sig) ≠ (y : DevRef τ sig)) (d : Dev nD) (f : Buf (Elt F) ((SparseCore.T d).loc x)) (g : Buf (Elt F) ((SparseCore.T d).loc y))
    (Q : PUnit → sProp 𝕄) :
    iprop(boundary (SparseCore.T d) ∗ ((SparseCore.T d).loc x ↦{fullShare} f) ∗ ((SparseCore.T d).loc y ↦{fullShare} g)
        ∗ ((boundary (SparseCore.T d) ∗ ((SparseCore.T d).loc x ↦{fullShare} f) ∗ ((SparseCore.T d).loc y ↦{fullShare} (fun i => he ▸ shapeCast y.ty.shape f hn i))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  let V : Valuation τ sig (Elt F) := Function.update (Function.update (fun b => m (d, b)) (x : DevRef τ sig) f) (y : DevRef τ sig) g
  have hVx : V (x : DevRef τ sig) = f := (Function.update_of_ne hxy _ _).trans (Function.update_self _ _ _)
  have hVy : V (y : DevRef τ sig) = g := Function.update_self _ _ _
  have hheld : ∀ W : Valuation τ sig (Elt F), (held (SparseCore.T d) {(x : DevRef τ sig), (y : DevRef τ sig)} W : sProp 𝕄)
      = iprop(((SparseCore.T d).loc x ↦{fullShare} W (x : DevRef τ sig)) ∗ ((SparseCore.T d).loc y ↦{fullShare} W (y : DevRef τ sig))) := fun W => by
    unfold held
    rw [SparseCore.bigSep_insert' (by rwa [Finset.mem_singleton]), bigSep_singleton]
  iintro ⟨Hb, Hx, Hy, HQ⟩
  iapply (wp_hlo_within 𝒱 (SparseCore.T d) none Set.univ (op := StableHlo.reshape x y he hn hx hy) (S := {(x : DevRef τ sig), (y : DevRef τ sig)}) (Finset.Subset.refl _) (V := V)) $$ [Hb Hx Hy]
  · isplitl [Hb]; · iexact Hb
    rw [hheld, hVx, hVy]
    isplitl [Hx]
    · iexact Hx
    · iexact Hy
  iintro ⟨Hb, Hh⟩
  ihave Hh := (Entails.of_eq (hheld _)) $$ Hh
  icases Hh with ⟨Hx, Hy⟩
  rw [StableHlo.reshape_result, (StableHlo.reshape x y he hn hx hy).result_of_not_mem V (b := (x : DevRef τ sig)) (by rw [StableHlo.reshape_writes, Finset.mem_singleton]; exact hxy), hVx]
  rw [wp_ret]; imodintro
  iapply HQ
  isplitl [Hb]; · iexact Hb
  isplitl [Hx]
  · iexact Hx
  · iexact Hy

/-- The arrays of @main, each at what the launch holds. -/
theorem unscoped_eq (d : Dev nD) (W : (b : Ref sig .tc) → Buf (Elt F) ((SparseCore.T d).loc b)) :
    (unscopedBufs d W : sProp 𝕄) = iprop(((SparseCore.T d).loc main_arg0 ↦{fullShare} W main_arg0) ∗ ((SparseCore.T d).loc main_arg1 ↦{fullShare} W main_arg1)
      ∗ (xLoc d ↦{fullShare} W main_v0) ∗ (tLoc d ↦{fullShare} W main_v1) ∗ (oLoc d ↦{fullShare} W main_v2)
      ∗ ((SparseCore.T d).loc main_v3 ↦{fullShare} W main_v3) ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The tiles the TensorCore call reads, of the histograms. -/
def tiles (h : Vec F S32x65536 .f32) : Vec F S16384x128 .f32 := shapeCast S16384x128 h shapeCasts_S32x65536_S16384x128

/-- The result of the program, of the histograms. -/
def result (h : Vec F S32x65536 .f32) : Vec F S_ .f32 := shapeCast S_ (combined (tiles h)) shapeCasts_S1x1_S_

/-- What @main leaves the claim: the two arguments as they were, and the result, of histograms every row of which is
    its task's. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ∃ h, ⌜∀ w, RowOK (flatX m d) (flatT m d) w h⌝ ∗ ((SparseCore.T d).loc main_v5 ↦{fullShare} (result h)))

/-- What the pipelined call holds before it runs. -/
theorem reg1_pre (H : Vec F S16384x128 .f32) (z : Vec F S1x1 .f32) (B : ℕ) (d : Dev nD) : (reg1 H z B).pre d
    = iprop(((SparseCore.T d).loc main_v3 ↦{fullShare} H) ∗ ((SparseCore.T d).loc main_v4 ↦{fullShare} z) ∗ idleAt (F := F) B d) := rfl

/-- What the pipelined call holds after it ran. -/
theorem reg1_post (H : Vec F S16384x128 .f32) (z : Vec F S1x1 .f32) (B : ℕ) (d : Dev nD) : (reg1 H z B).post d
    = iprop(((SparseCore.T d).loc main_v3 ↦{fullShare} H) ∗ ((SparseCore.T d).loc main_v4 ↦{fullShare} combined H) ∗ idleAt (F := F) B d) := rfl

/-- The TensorCore's pipelined call in @main. -/
theorem region_step [∀ e, Nonempty (Elt F e)] (H : Vec F S16384x128 .f32) (z : Vec F S1x1 .f32) (B : ℕ) (d : Dev nD) (Q : PUnit → sProp 𝕄) :
    iprop((iprop(boundary (SparseCore.T d) ∗ ((SparseCore.T d).loc main_v3 ↦{fullShare} H) ∗ ((SparseCore.T d).loc main_v4 ↦{fullShare} combined H) ∗ idleAt (F := F) B d) -∗ Q ⟨⟩)
        ∗ boundary (SparseCore.T d) ∗ (((SparseCore.T d).loc main_v3 ↦{fullShare} H) ∗ ((SparseCore.T d).loc main_v4 ↦{fullShare} z) ∗ idleAt (F := F) B d)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have h := Pipeline.RegionSeg.wp (pcfgs (F := F)) adm (dats H z B) none phinj EP defs₀ 𝒱₀ (K (F := F)).L (K (F := F)).lev (reg1 H z B) d none (fun _ h => nomatch h) .ret Q
  have h2 : _ ⊢ wp frame (wpE ((K (F := F)).defs (D (F := F))) 𝒱 (SparseCore.T d) none) Set.univ
      (Prog.lift (.customCall (SparseCore.inner (Pipeline.entry 0)) ())) Q :=
    h.trans ((K (F := F)).wp_liftProg (D (F := F)) 𝒱 (SparseCore.T d) Set.univ none _ Q)
  rw [reg1_pre, reg1_post] at h2
  unfold G
  iintro ⟨HQ, Hb, Hpre, Hl, Hg, Ht⟩
  iapply h2
  isplitl [HQ]
  · iintro ⟨Hb, Hp⟩
    rw [wp_ret]; imodintro
    iapply HQ
    isplitl [Hb]; · iexact Hb
    iexact Hp
  isplitl [Hb]; · iexact Hb
  isplitl [Hpre]; · iexact Hpre
  isplitl [Hl]; · iexact Hl
  isplitl [Hg]
  · iexact Hg
  · iexact Ht

/-- The TensorCore after its one SparseCore call: it owes nothing more. -/
theorem tcSt_idle (d : Dev nD) : ((K (F := F)).tcSt EH d 1 : sProp 𝕄) ⊢ iprop(idleAt (F := F) (8 * 1) d ∗ (idleAt (F := F) (8 * 1) d -∗ (K (F := F)).tcSt EH d 1)) := by
  unfold SparseCore.Cfg.tcSt idleAt
  rw [(K (F := F)).Otc_end d (le_refl 1)]
  iintro ⟨HO, Hrest⟩
  isplitl [HO]; · iexact HO
  iintro HO
  isplitl [HO]; · iexact HO
  iexact Hrest

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Ha0, Ha1, Hx, Ht, Ho, H3, H4, H5⟩, Hts, -⟩, HG⟩
  iapply (reshape_step m (by decide) d _ _ _)
  isplitl [Hb]; · iexact Hb
  isplitl [Ha0]; · iexact Ha0
  isplitl [Hx]; · iexact Hx
  iintro ⟨Hb, Ha0, Hx⟩
  iapply (reshape_step m (by decide) d _ _ _)
  isplitl [Hb]; · iexact Hb
  isplitl [Ha1]; · iexact Ha1
  isplitl [Ht]; · iexact Ht
  iintro ⟨Hb, Ha1, Ht⟩
  iapply ((K (F := F)).wp_run (D (F := F)) 𝒱 (EH := EH) (P := P m) κ d 0) $$ [Hst Ha0 Ha1 Hx Ht Ho H3 H4 H5 Hb Hts HG]
  isplitr; · iexact Hctx
  isplitl [Hst]; · iexact Hst
  isplitl [Hx Ht Ho]
  · rw [st_eq]
    unfold ins
    isplitl [Hx Ht]
    · isplitl [Hx]; · iexact Hx
      iexact Ht
    iexact Ho
  iintro ⟨Hst, Hdn⟩
  ihave Hdn := (dn_elim m d) $$ Hdn
  icases Hdn with ⟨-, %h, %hh, Ho⟩
  iapply (reshape_step m (by decide) d _ _ _)
  isplitl [Hb]; · iexact Hb
  isplitl [Ho]; · iexact Ho
  isplitl [H3]; · iexact H3
  iintro ⟨Hb, Ho, H3⟩
  ihave Hst := (tcSt_idle (F := F) d) $$ [Hst]
  · iexact Hst
  icases Hst with ⟨Hid, Hst⟩
  iapply (region_step (tiles h) (m ((SparseCore.T d).loc main_v4)) (8 * 1) d _)
  isplitl [Ha0 Ha1 H5 Hts Hst]
  · iintro ⟨Hb, H3, H4, Hid⟩
    iapply (reshape_step m (by decide) d _ _ _)
    isplitl [Hb]; · iexact Hb
    isplitl [H4]; · iexact H4
    isplitl [H5]; · iexact H5
    iintro ⟨Hb, H4, H5⟩
    imodintro
    isplitl [Hst Hid]
    · iapply Hst; iexact Hid
    isplitr [Hb Hts]
    · unfold FIN
      isplitl [Ha0]; · iexact Ha0
      isplitl [Ha1]; · iexact Ha1
      iexists h; isplitr
      · ipureintro; exact hh
      iexact H5
    isplitl [Hb] <;> iassumption
  isplitl [Hb]; · iexact Hb
  isplitl [H3 H4 Hid]
  · isplitl [H3]; · iexact H3
    isplitl [H4]; · iexact H4
    iexact Hid
  isplitr [HG]
  · iapply ((K (F := F)).ctx_levAts κ); iexact Hctx
  iexact HG

/-- What a final state shows. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ ∃ h, (∀ w, RowOK (flatX m d) (flatT m d) w h) ∧ s'.mem.mem ((SparseCore.T d).loc main_v5) = result h

/-- A buffer held whole is what the state has. -/
theorem read_whole {s' : Phys nD τ sig (Elt F)} (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h1, HSI, -⟩
  isplitr
  · ipureintro; exact funext fun i => h1 i (Finset.mem_univ i)
  iexact HSI

/-- What the main thread holds at the end fixes the final memory. -/
theorem hfin (d : Dev nD) (s' : Phys nD τ sig (Elt F)) : iprop(FIN m d ∗ SI s') ⊢ (⌜fq m d s'⌝ : sProp 𝕄) := by
  unfold FIN
  iintro ⟨⟨Ha0, Ha1, %h, %hh, H5⟩, HSI⟩
  ihave H := (read_whole _ _) $$ [HSI Ha0]
  · isplitl [HSI]; · iexact HSI
    iexact Ha0
  icases H with ⟨%h0, HSI⟩
  ihave H := (read_whole _ _) $$ [HSI Ha1]
  · isplitl [HSI]; · iexact HSI
    iexact Ha1
  icases H with ⟨%h1, HSI⟩
  ihave H := (read_whole _ _) $$ [HSI H5]
  · isplitl [HSI]; · iexact HSI
    iexact H5
  icases H with ⟨%h5, -⟩
  ipureintro
  exact ⟨h0, h1, h, hh, h5⟩

/-- At the compiled mesh, from any memory with zero counters whose labels are zeros and ones: every weakly fair execution
    terminates, the arguments are unchanged, the result is computed from histograms the tasks leave, every counter is zero. -/
theorem run_main [∀ e, Nonempty (Elt F e)] (hm : LabelsOK m) :
    θ_run (Cert.KernelIdeal.defs (F := F)) (Cert.KernelIdeal.threads (F := F)) ⟨m, fun _ => 0, ρ⟩ fun r =>
      (∀ d : Dev nD, r.2.mem ((SparseCore.T d).loc main_arg0) = m ((SparseCore.T d).loc main_arg0) ∧ r.2.mem ((SparseCore.T d).loc main_arg1) = m ((SparseCore.T d).loc main_arg1)
        ∧ ∃ h, (∀ w, RowOK (flatX m d) (flatT m d) w h) ∧ r.2.mem ((SparseCore.T d).loc main_v5) = result h) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (G (F := F)) (FIN m) (u₀ (F := F)) (sep_elim_left.trans (hu₀ m)) (hmain m ρ) (fq m) (hfin m) _ (fun _ h hz => ⟨h, hz⟩)

end Cert.Proof.Lovasz
-- ==== Proof.Frames.lean ====
/-
  The frames: what the precondition says of the labels, and each program's run with its arguments unchanged and every
  counter back at zero. The printed kernel and its idealization are one text, so the run of one is the run of the other
  at another instance of the floats.
-/
module

public import proofs.«01_k».proof.Defs
public import proofs.«01_k».proof.Proof.Launch
public import proofs.«01_k».proof.Proof.Gen.Kernel
public import proofs.«01_k».proof.Proof.Gen.Pre_pre
public import proofs.«01_k».proof.Proof.Gen.ReferenceIdeal.Run
public import Idealize.ShloMosaic.Lib.ReduceAll
public import Idealize.ShloMosaic.Lib.Quiescent

@[expose] public section

noncomputable section

namespace Cert.Proof.Lovasz

open Idealize.ShloMosaic Idealize.SL.Sem

/-- The precondition makes every label zero or one. -/
theorem labels_of_pre {F : FTy → Type} [FloatOps F] (x : FVec F Cert.Pre_pre.S16x512x512 .f32) (t : IVec Cert.Pre_pre.S16x512x512 32)
    (h : Cert.Pre_pre.fn (F := F) x t = fun _ => 1#1) (i : Cert.Pre_pre.S16x512x512.Idx) : t i = 0#32 ∨ t i = 1#32 := by
  haveI : Subsingleton Cert.Pre_pre.S_.Idx := ⟨fun a b => funext fun k => k.elim0⟩
  have e := Host.reduce_andi_all _ _ _ _ (fun k => k.elim0) (congrFun h fun k => k.elim0) i
  exact (IntOp.ori_eq_one.1 e).imp IntOp.cmpi_eq.1 IntOp.cmpi_eq.1

/-- The idealization's launch memory has labels zero and one. -/
theorem labelsOK_of_pre (m : (ℓ : Loc Cert.KernelIdeal.nD Cert.KernelIdeal.τ Cert.KernelIdeal.sig) → Buf (Elt Ideal) ℓ)
    (h : Cert.Pre_KernelIdeal m) : LabelsOK m := fun d _ => labels_of_pre _ _ (h d) _

/-- The idealization's run, its arguments unchanged. -/
theorem frame_KernelIdeal : Cert.quiescent_KernelIdeal := fun m ρ h =>
  (θ_run Cert.KernelIdeal.defs _ _).mono (fun _ r => ⟨fun d => ⟨(r.1 d).1, (r.1 d).2.1⟩, r.2⟩) (run_main m ρ (labelsOK_of_pre m h))

/-- The kernel's launch memory has labels zero and one. -/
theorem labelsOK_of_pre_Kernel (m : (ℓ : Loc Cert.Kernel.nD Cert.Kernel.τ Cert.Kernel.sig) → Buf (Elt Bits) ℓ)
    (h : Cert.Pre_Kernel m) : LabelsOK (F := Bits) m := fun d _ => labels_of_pre _ _ (h d) _

/-- The two printings have one body table. -/
theorem defs₀_eq {F : FTy → Type} [FloatOps F] : Cert.Kernel.defs₀ (F := F) = Cert.KernelIdeal.defs₀ (F := F) := by
  funext p ℓ a
  match p, ℓ, a with
  | .scVector c s, 0, _ => rfl
  | .scVector c s, 1, _ => rfl
  | .tc, 0, _ => rfl
  | .tc, 1, (t, s) => rfl
  | .scScalar c, 0, _ => rfl
  | .scScalar c, 1, _ => rfl

/-- So the two printings' programs have one meaning. -/
theorem defs_eq {F : FTy → Type} [FloatOps F] : Cert.Kernel.defs (F := F) = Cert.KernelIdeal.defs (F := F) :=
  congrArg (fun D => (Cert.KernelIdeal.sc (F := F)).defs (Pipeline.defs Cert.KernelIdeal.pcfgs D)) defs₀_eq

/-- The kernel's run, its arguments unchanged: the idealization's text at the machine's floats. -/
theorem frame_Kernel : Cert.quiescent_Kernel := by
  intro m ρ h
  have r := run_main (F := Bits) m ρ (labelsOK_of_pre_Kernel m h)
  rw [← defs_eq] at r
  exact (θ_run Cert.Kernel.defs _ _).mono (fun r hr => ⟨fun d => ⟨(hr.1 d).1, (hr.1 d).2.1⟩, hr.2⟩) r

/-- The reference's run, its arguments unchanged: it has no semaphore, so every counter stays at zero. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Lovasz
-- ==== Proof.Sums.lean ====
/-
  The loss over the reals. The reference sorts the errors and weighs each by a difference of Jaccard terms; the kernel
  counts, per bin, the elements of each label, and weighs each bin once. Both are the same number: the errors of label
  zero lie above one and those of label one below it, so the sort puts every label zero first; there the Jaccard term
  after `m` elements is `m / (P + m)`, whose differences telescope over the positions of a bin, and from there on it
  grows by `1 / N` at each position.
-/
module

public import Mathlib.Analysis.SpecialFunctions.Exp
public import Mathlib.Algebra.BigOperators.Intervals
public import Mathlib.Order.Interval.Finset.Fin
public import Mathlib.Algebra.BigOperators.Field

@[expose] public section

noncomputable section

namespace Cert.Proof.Lovasz

open Finset

/-! ## Initial segments of the positions -/

variable {N : ℕ}

/-- A set of positions closed under going back is the first so many positions. -/
theorem mem_iff_lt_card (S : Finset (Fin N)) (hS : ∀ i j : Fin N, i ≤ j → j ∈ S → i ∈ S) (k : Fin N) : k ∈ S ↔ k.val < S.card := by
  constructor
  · intro hk
    have h : Iic k ⊆ S := fun i hi => hS i k (mem_Iic.1 hi) hk
    have := card_le_card h
    rw [Fin.card_Iic] at this
    omega
  · intro hk
    by_contra hn
    have h : S ⊆ Iio k := fun i hi => mem_Iio.2 (lt_of_not_ge fun hki => hn (hS k i hki hi))
    have := card_le_card h
    rw [Fin.card_Iio] at this
    omega

/-- Differences of a sequence over an initial segment telescope. -/
theorem sum_initial (S : Finset (Fin N)) (hS : ∀ i j : Fin N, i ≤ j → j ∈ S → i ∈ S) (f : ℕ → ℝ) :
    ∑ k ∈ S, (f (k.val + 1) - f k.val) = f S.card - f 0 := by
  rw [← sum_range_sub]
  refine sum_bij (fun k _ => k.val) (fun k hk => mem_range.2 ((mem_iff_lt_card S hS k).1 hk)) (fun a _ b _ h => Fin.ext h) (fun n hn => ?_) (fun _ _ => rfl)
  have hn := mem_range.1 hn
  have hN : n < N := lt_of_lt_of_le hn ((card_le_univ S).trans_eq (Fintype.card_fin N))
  exact ⟨⟨n, hN⟩, (mem_iff_lt_card S hS ⟨n, hN⟩).2 hn, rfl⟩

/-! ## Counting by bins -/

/-- How many elements satisfy `p`, as a real. -/
def num {ι : Type} [Fintype ι] (p : ι → Prop) [DecidablePred p] : ℝ := ∑ i, if p i then 1 else 0

/-- A number of indices is the size of their set. -/
theorem num_eq_card {ι : Type} [Fintype ι] (p : ι → Prop) [DecidablePred p] : num p = ((univ.filter p).card : ℝ) := by
  unfold num; rw [sum_boole]

/-- Counting bin by bin, weighted, is summing the weights of the elements. -/
theorem sum_num {ι : Type} [Fintype ι] (p : ι → Prop) [DecidablePred p] (β : ι → ℕ) (R : Finset ℕ) (w : ℕ → ℝ) :
    ∑ b ∈ R, num (fun i => p i ∧ β i = b) * w b = ∑ i, if p i ∧ β i ∈ R then w (β i) else 0 := by
  unfold num
  simp only [sum_mul]
  rw [sum_comm]
  refine sum_congr rfl fun i _ => ?_
  by_cases hp : p i
  · by_cases hb : β i ∈ R
    · rw [if_pos ⟨hp, hb⟩, sum_eq_single (β i)]
      · simp [hp]
      · intro b _ hne; simp [Ne.symm hne]
      · exact fun h => absurd hb h
    · rw [if_neg fun h => hb h.2]
      exact sum_eq_zero fun b hbR => by rw [if_neg fun h : p i ∧ β i = b => hb (by rw [h.2]; exact hbR), zero_mul]
  · simp [hp]

/-- The counts of some bins add up to the count of their elements. -/
theorem sum_num_one {ι : Type} [Fintype ι] (p : ι → Prop) [DecidablePred p] (β : ι → ℕ) (R : Finset ℕ) :
    ∑ b ∈ R, num (fun i => p i ∧ β i = b) = num fun i => p i ∧ β i ∈ R := by
  have h := sum_num p β R fun _ => 1
  simp only [mul_one] at h
  exact h

/-- A count is unchanged by a reordering. -/
theorem num_comp {ι : Type} [Fintype ι] (p : ι → Prop) [DecidablePred p] (σ : ι → ι) (hσ : Function.Bijective σ) :
    (num fun k => p (σ k)) = num p := by
  unfold num
  exact hσ.sum_comp fun i => if p i then (1 : ℝ) else 0

/-! ## The loss -/

/-- The Jaccard term after `x` elements of label zero, of `P` of label one. -/
def jac (P x : ℝ) : ℝ := x / max (P + x) 1

/-- The kernel's loss: of the bins' counts, the share of each bin's centre and the number of elements. -/
def binLoss (K : ℕ) (n : ℝ) (c0 c1 s : ℕ → ℝ) : ℝ :=
  (∑ b ∈ range K, (jac (∑ i ∈ range K, c1 i) ((∑ i ∈ range K, c0 i) - (∑ i ∈ range (b + 1), c0 i) + c0 b)
      - jac (∑ i ∈ range K, c1 i) ((∑ i ∈ range K, c0 i) - ∑ i ∈ range (b + 1), c0 i)) * (1 + s b))
    + (∑ b ∈ range K, c1 b * (1 - s b)) / n

/-- The number of elements of label one among the first positions, through `k`. -/
def ones (L : Fin N → Prop) [DecidablePred L] (k : Fin N) : ℝ := ∑ j ∈ univ.filter (· ≤ k), if L j then 1 else 0

/-- The number of elements of label zero among the first positions, through `k`. -/
def zeros (L : Fin N → Prop) [DecidablePred L] (k : Fin N) : ℝ := ∑ j ∈ univ.filter (· ≤ k), (1 - if L j then 1 else 0)

/-- The reference's Jaccard term at position `k`. -/
def jacAt (L : Fin N → Prop) [DecidablePred L] (k : Fin N) : ℝ := 1 - (num L - ones L k) / (num L + zeros L k)

/-- Its increment at position `k`. -/
def gradAt (L : Fin N → Prop) [DecidablePred L] (k : Fin N) : ℝ :=
  if h : k.val = 0 then jacAt L k else jacAt L k - jacAt L ⟨k.val - 1, by omega⟩

section
variable {L : Fin N → Prop} [DecidablePred L] (hL : ∀ i j : Fin N, i ≤ j → L i → L j)

include hL in
/-- The labels zero come first. -/
theorem not_label_iff (k : Fin N) : ¬ L k ↔ k.val < (univ.filter fun k => ¬ L k).card := by
  rw [← mem_iff_lt_card (univ.filter fun k => ¬ L k) (fun i j hij hj => ?_) k, mem_filter]
  · simp
  · exact mem_filter.2 ⟨mem_univ _, fun hi => (mem_filter.1 hj).2 (hL i j hij hi)⟩

/-- The two counts make up all positions through `k`. -/
theorem ones_add_zeros (k : Fin N) : ones L k + zeros L k = k.val + 1 := by
  unfold ones zeros
  rw [← sum_add_distrib]
  have : ∀ j ∈ univ.filter (· ≤ k), (((if L j then 1 else 0) : ℝ) + (1 - if L j then 1 else 0)) = 1 := fun j _ => by ring
  rw [sum_congr rfl this, sum_const, nsmul_eq_mul, mul_one]
  have : (univ.filter (· ≤ k)) = Iic k := by ext; simp
  rw [this, Fin.card_Iic]; push_cast; ring

/-- Those of label one and those of label zero are all. -/
theorem num_add_num_not : num L + num (fun k => ¬ L k) = N := by
  unfold num
  rw [← sum_add_distrib]
  have : ∀ j ∈ (univ : Finset (Fin N)), (((if L j then 1 else 0) : ℝ) + (if ¬ L j then 1 else 0)) = 1 := fun j _ => by
    by_cases h : L j <;> simp [h]
  rw [sum_congr rfl this]; simp

include hL in
/-- Before a zero there is no one, when the zeros come first. -/
theorem ones_of_lt (k : Fin N) (hk : ¬ L k) : ones L k = 0 :=
  sum_eq_zero fun j hj => if_neg fun h => hk (hL j k (mem_filter.1 hj).2 h)

include hL in
/-- Through a one all the zeros are counted, when the zeros come first. -/
theorem zeros_of_ge (k : Fin N) (hk : L k) : zeros L k = num fun k => ¬ L k := by
  unfold zeros num
  rw [sum_filter]
  refine sum_congr rfl fun j _ => ?_
  by_cases h : j ≤ k
  · by_cases h' : L j <;> simp [h, h']
  · have : L j := hL k j (le_of_lt (lt_of_not_ge h)) hk
    simp [h, this]

include hL in
/-- The increment at a position of label zero. -/
theorem gradAt_zero (k : Fin N) (hk : ¬ L k) : gradAt L k = jac (num L) ((k.val + 1 : ℕ) : ℝ) - jac (num L) (k.val : ℝ) := by
  have hP : 0 ≤ num L := sum_nonneg fun i _ => by split <;> norm_num
  have key : ∀ j : Fin N, ¬ L j → jacAt L j = jac (num L) ((j.val + 1 : ℕ) : ℝ) := fun j hj => by
    have h0 := ones_of_lt hL j hj
    have h1 := ones_add_zeros (L := L) j
    rw [h0, zero_add] at h1
    unfold jacAt jac
    rw [h0, h1]
    have hp : 0 < num L + ((j.val : ℝ) + 1) := by positivity
    rw [max_eq_left (by push_cast; have : (0 : ℝ) ≤ j.val := Nat.cast_nonneg _; linarith)]
    push_cast
    field_simp
    ring
  unfold gradAt
  by_cases h : k.val = 0
  · rw [dif_pos h, key k hk, h]; simp [jac]
  · rw [dif_neg h, key k hk, key ⟨k.val - 1, by omega⟩ fun hj => hk (hL _ _ (Fin.le_def.2 (Nat.sub_le _ _)) hj)]
    rw [show k.val - 1 + 1 = k.val by omega]

include hL in
/-- The increment at a position of label one. -/
theorem gradAt_one (k : Fin N) (hk : L k) : gradAt L k = 1 / N := by
  have hN : (0 : ℝ) < N := by have := k.isLt; exact_mod_cast (by omega : 0 < N)
  have hall := num_add_num_not (L := L)
  have key : ∀ j : Fin N, (L j ∨ j.val + 1 = (univ.filter fun k => ¬ L k).card) → jacAt L j = (j.val + 1) / N := fun j hj => by
    have hz : zeros L j = num fun k => ¬ L k := by
      by_cases h : L j
      · exact zeros_of_ge hL j h
      · have h0 := ones_of_lt hL j h
        have h1 := ones_add_zeros (L := L) j
        have h2 := hj.resolve_left h
        rw [num_eq_card, ← h2]; push_cast; linarith
    have h1 := ones_add_zeros (L := L) j
    unfold jacAt
    rw [hz, hall, show ones L j = (j.val + 1) - num (fun k => ¬ L k) by linarith]
    field_simp
    linarith
  unfold gradAt
  by_cases h : k.val = 0
  · rw [dif_pos h, key k (.inl hk), h]; simp
  · rw [dif_neg h, key k (.inl hk), key ⟨k.val - 1, by omega⟩]
    · have : ((k.val - 1 : ℕ) : ℝ) = (k.val : ℝ) - 1 := by push_cast [Nat.one_le_iff_ne_zero.2 h]; ring
      simp only [this]
      field_simp
      ring
    · by_cases h' : L ⟨k.val - 1, by omega⟩
      · exact .inl h'
      · right
        have a := (not_label_iff hL _).1 h'
        have b := mt (not_label_iff hL k).2 (not_not.2 hk)
        simp only at a ⊢
        omega
end

/-- The reference's loss is the kernel's. `l` is the label, `β` the bin, `s` the share at a bin's centre, and `σ` orders the
    errors downwards. -/
theorem sorted_loss (K : ℕ) (l : Fin N → Prop) [DecidablePred l] (β : Fin N → ℕ) (hβ : ∀ i, β i < K) (s : ℕ → ℝ) (hs : StrictMono s)
    (hs0 : ∀ b, 0 < s b) (hs1 : ∀ b, s b < 1) (e : Fin N → ℝ) (he : ∀ i, e i = if l i then 1 - s (β i) else 1 + s (β i))
    (σ : Fin N → Fin N) (hσ : Function.Bijective σ) (hsort : ∀ i j, i ≤ j → e (σ j) ≤ e (σ i)) :
    ∑ k, e (σ k) * gradAt (fun k => l (σ k)) k
      = binLoss K N (fun b => num fun i => ¬ l i ∧ β i = b) (fun b => num fun i => l i ∧ β i = b) s := by
  have hL : ∀ i j : Fin N, i ≤ j → l (σ i) → l (σ j) := fun i j hij hi => by
    by_contra hj
    have h := hsort i j hij
    rw [he, he, if_neg hj, if_pos hi] at h
    linarith [hs0 (β (σ j)), hs0 (β (σ i))]
  have hB : ∀ i j : Fin N, i ≤ j → ¬ l (σ j) → β (σ j) ≤ β (σ i) := fun i j hij hj => by
    have h := hsort i j hij
    rw [he, he, if_neg hj, if_neg fun hi => hj (hL i j hij hi)] at h
    exact hs.le_iff_le.1 (by linarith)
  have hP : (num fun k => l (σ k)) = ∑ b ∈ range K, num fun i => l i ∧ β i = b := by
    rw [sum_num_one, num_comp _ σ hσ]
    simp only [mem_range, hβ, and_true]
  -- a bin's counts, as the cardinalities of initial segments
  have seg : ∀ p : ℕ → Prop, ∀ [DecidablePred p], (∀ a b, a ≤ b → p a → p b) → ∀ f : ℕ → ℝ,
      ∑ k, (if ¬ l (σ k) ∧ p (β (σ k)) then f (k.val + 1) - f k.val else 0)
        = f (univ.filter fun i => ¬ l i ∧ p (β i)).card - f 0 := fun p _ hp f => by
    rw [← sum_filter, sum_initial _ fun i j hij hj => ?_]
    · congr 2
      have := num_comp (fun i => ¬ l i ∧ p (β i)) σ hσ
      rw [num_eq_card, num_eq_card] at this
      exact_mod_cast this
    · simp only [mem_filter, mem_univ, true_and] at hj ⊢
      exact ⟨fun hi => hj.1 (hL i j hij hi), hp _ _ (hB i j hij hj.1) hj.2⟩
  have hbin : ∀ b ∈ range K, ∑ k, (if ¬ l (σ k) ∧ β (σ k) = b then jac (num fun k => l (σ k)) ((k.val + 1 : ℕ) : ℝ) - jac (num fun k => l (σ k)) (k.val : ℝ) else 0)
      = jac (num fun k => l (σ k)) ((∑ i ∈ range K, num fun j => ¬ l j ∧ β j = i) - (∑ i ∈ range (b + 1), num fun j => ¬ l j ∧ β j = i) + num fun j => ¬ l j ∧ β j = b)
        - jac (num fun k => l (σ k)) ((∑ i ∈ range K, num fun j => ¬ l j ∧ β j = i) - ∑ i ∈ range (b + 1), num fun j => ¬ l j ∧ β j = i) := fun b _ => by
    have above : (∑ i ∈ range K, num fun j => ¬ l j ∧ β j = i) - (∑ i ∈ range (b + 1), num fun j => ¬ l j ∧ β j = i)
        = num fun j => ¬ l j ∧ b < β j := by
      rw [sum_num_one, sum_num_one, sub_eq_iff_eq_add]
      unfold num
      rw [← sum_add_distrib]
      refine sum_congr rfl fun j _ => ?_
      have h := hβ j
      by_cases h1 : l j <;> by_cases h2 : b < β j <;> simp [h1, h2, h, Nat.lt_succ_iff] <;> omega
    have from_ : (num fun j => ¬ l j ∧ b < β j) + (num fun j => ¬ l j ∧ β j = b) = num fun j => ¬ l j ∧ b ≤ β j := by
      unfold num
      rw [← sum_add_distrib]
      refine sum_congr rfl fun j _ => ?_
      rcases lt_trichotomy b (β j) with h2 | h2 | h2
      · by_cases h1 : l j <;> simp [h1, h2, h2.le, h2.ne']
      · by_cases h1 : l j <;> simp [h1, h2]
      · by_cases h1 : l j <;> simp [h1, h2.not_gt, h2.ne, h2.not_ge]
    rw [above, from_, num_eq_card (fun j => ¬ l j ∧ b < β j), num_eq_card (fun j => ¬ l j ∧ b ≤ β j)]
    have A := seg (fun x => b < x) (fun _ _ h h' => lt_of_lt_of_le h' h) fun n => jac (num fun k => l (σ k)) (n : ℝ)
    have B := seg (fun x => b ≤ x) (fun _ _ h h' => le_trans h' h) fun n => jac (num fun k => l (σ k)) (n : ℝ)
    have split : ∑ k, (if ¬ l (σ k) ∧ b ≤ β (σ k) then jac (num fun k => l (σ k)) ((k.val + 1 : ℕ) : ℝ) - jac (num fun k => l (σ k)) (k.val : ℝ) else 0)
        = ∑ k, (if ¬ l (σ k) ∧ b < β (σ k) then jac (num fun k => l (σ k)) ((k.val + 1 : ℕ) : ℝ) - jac (num fun k => l (σ k)) (k.val : ℝ) else 0)
          + ∑ k, (if ¬ l (σ k) ∧ β (σ k) = b then jac (num fun k => l (σ k)) ((k.val + 1 : ℕ) : ℝ) - jac (num fun k => l (σ k)) (k.val : ℝ) else 0) := by
      rw [← sum_add_distrib]
      refine sum_congr rfl fun k _ => ?_
      rcases lt_trichotomy b (β (σ k)) with h2 | h2 | h2
      · by_cases h1 : l (σ k) <;> simp [h1, h2, h2.le, h2.ne']
      · by_cases h1 : l (σ k) <;> simp [h1, h2]
      · by_cases h1 : l (σ k) <;> simp [h1, h2.not_gt, h2.ne, h2.not_ge]
    linarith
  -- each position is of one label or the other
  have pos : ∀ k, e (σ k) * gradAt (fun k => l (σ k)) k
      = (∑ b ∈ range K, (if ¬ l (σ k) ∧ β (σ k) = b then jac (num fun k => l (σ k)) ((k.val + 1 : ℕ) : ℝ) - jac (num fun k => l (σ k)) (k.val : ℝ) else 0) * (1 + s b))
        + (if l (σ k) ∧ β (σ k) ∈ range K then 1 - s (β (σ k)) else 0) / N := fun k => by
    have hk : β (σ k) ∈ range K := mem_range.2 (hβ _)
    by_cases h : l (σ k)
    · rw [gradAt_one hL k h, he, if_pos h, if_pos ⟨h, hk⟩, sum_eq_zero fun b _ => by rw [if_neg fun h' => h'.1 h, zero_mul]]
      ring
    · rw [gradAt_zero hL k h, he, if_neg h, if_neg fun h' => h h'.1, sum_eq_single (β (σ k))]
      · rw [if_pos ⟨h, rfl⟩]; ring
      · intro b _ hne; rw [if_neg fun h' => hne h'.2.symm, zero_mul]
      · exact fun h' => absurd hk h'
  rw [sum_congr rfl fun k _ => pos k, sum_add_distrib, sum_comm, ← Finset.sum_div]
  unfold binLoss
  rw [sum_num (fun i => l i) β (range K) fun b => 1 - s b]
  congr 1
  · refine sum_congr rfl fun b hb => ?_
    rw [← sum_mul, hbin b hb, hP]
  · congr 1
    exact hσ.sum_comp fun i => if l i ∧ β i ∈ range K then 1 - s (β i) else 0

end Cert.Proof.Lovasz
-- ==== Proof.Counts.lean ====
/-
  The histograms at the extended reals: after its trips a task's histogram counts, in every bin, the task's elements
  of that bin and label; and the two accumulators of the TensorCore call count, over all elements, those of label
  zero and those of label one.
-/
module

public import proofs.«01_k».proof.Proof.Launch
public import proofs.«01_k».proof.Proof.Sums

@[expose] public section

noncomputable section

namespace Cert.Proof.Lovasz

open Cert.KernelIdeal Cert.KernelIdeal.Gen
open Idealize.ShloMosaic
open Finset (range univ sum_congr sum_range_succ sum_range_zero)

/-! ## Constants -/

/-- The constant zero. -/
theorem bits_zero : (FloatOps.ofBits .f32 0x00000000#32 : Ideal .f32) = ((0 : ℝ) : EReal) := by
  show Ideal.ofBits .f32 _ = _
  simp [Ideal.ofBits, Ideal.ieee, -EReal.coe_mul]

/-- The constant one. -/
theorem bits_one : (FloatOps.ofBits .f32 0x3F800000#32 : Ideal .f32) = ((1 : ℝ) : EReal) := by
  show Ideal.ofBits .f32 _ = _
  simp [Ideal.ofBits, Ideal.ieee, -EReal.coe_mul]
  norm_num

/-! ## One task's histogram -/

/-- The bin element `k` counts in, of the histogram's 65536. -/
def key (x : Vec Ideal S4194304 .f32) (t : Vec Ideal S4194304 .i32) (k : ℕ) : ℕ := bin (F := Ideal) (x (pos k)) + 32768 * (t (pos k)).toNat

/-- Adding one in some lanes' bins, lane after lane, adds to each bin the number of its lanes. -/
theorem add_lanes {ι : Type} (b : ι → ℕ) : ∀ (l : List ι) (f : Vec Ideal S65536 .f32) (r : S65536.Idx → ℝ), (∀ j, f j = ((r j : ℝ) : EReal)) →
    ∀ j, l.foldl (fun (g : Vec Ideal S65536 .f32) k => fun i => if (i 0).val = b k then (g i + ((1 : ℝ) : EReal) : EReal) else g i) f j
      = ((r j + (l.map fun k => if b k = (j 0).val then (1 : ℝ) else 0).sum : ℝ) : EReal)
  | [], f, r, h, j => by simpa using h j
  | k :: l, f, r, h, j => by
    rw [List.foldl_cons, add_lanes b l _ (fun i => r i + if b k = (i 0).val then (1 : ℝ) else 0) (fun i => ?_) j, List.map_cons, List.sum_cons, add_assoc]
    show (if (i 0).val = b k then (f i + ((1 : ℝ) : EReal) : EReal) else f i) = _
    by_cases e : (i 0).val = b k
    · rw [if_pos e, if_pos e.symm, h i, ← EReal.coe_add]
    · rw [if_neg e, if_neg (Ne.symm e), h i, add_zero]

/-- The store that adds one at every lane's index. -/
theorem storeIdx_ones (f : Vec Ideal S65536 .f32) (B : IVec S16 32) (h : ∀ a x', ((![B] : Fin 1 → IVec S16 32) a x').toNat < S65536.size a)
    (r : S65536.Idx → ℝ) (hf : ∀ j, f j = ((r j : ℝ) : EReal)) (j : S65536.Idx) :
    storeIdx f ![B] (k0_pay3 (F := Ideal)) (fun _ => 1#1) true h j
      = ((r j + ∑ i : Fin 16, if (B (Shape.ofLane (d := ![16]) i)).toNat = (j 0).val then (1 : ℝ) else 0 : ℝ) : EReal) := by
  have e := add_lanes (fun k : Fin 16 => (B (Shape.ofLane (d := ![16]) k)).toNat) (List.finRange 16) f r hf j
  rw [← List.ofFn_eq_map, List.sum_ofFn] at e
  rw [← e]
  unfold storeIdx
  refine congrFun (congrArg (fun s => List.foldl s f (List.finRange 16)) ?_) j
  funext g k i
  have hm : (1#1 : BitVec 1) = 1 := rfl
  refine (congrFun (if_pos hm) i).trans ?_
  have hi : (∀ a, (i a).val = (idxAt (![B] : Fin 1 → IVec S16 32) h (Shape.ofLane (d := ![16]) k) a).val) ↔ (i 0).val = (B (Shape.ofLane (d := ![16]) k)).toNat :=
    ⟨fun h => h 0, fun h a => by obtain rfl : a = 0 := Subsingleton.elim _ _; exact h⟩
  have h1 : (k0_pay3 (F := Ideal) (Shape.ofLane (d := ![16]) k) : EReal) = ((1 : ℝ) : EReal) := bits_one
  by_cases c : (i 0).val = (B (Shape.ofLane (d := ![16]) k)).toNat
  · rw [if_pos c]
    refine (if_pos (hi.2 c)).trans ?_
    show (g (idxAt (![B] : Fin 1 → IVec S16 32) h (Shape.ofLane (d := ![16]) k)) + k0_pay3 (F := Ideal) (Shape.ofLane (d := ![16]) k) : EReal) = _
    rw [h1]
    congr 2
    funext a
    obtain rfl : a = 0 := Subsingleton.elim _ _
    exact Fin.ext c.symm
  · rw [if_neg c]
    exact if_neg (mt hi.1 c)

/-- After `n` trips a bin holds the number of the elements read that count in it. -/
theorem hist_count {x : Vec Ideal S4194304 .f32} {t : Vec Ideal S4194304 .i32} (ht : Labels01 t) {b n : ℕ} {f : Vec Ideal S65536 .f32} (h : Hist x t b n f) :
    ∀ j, f j = ((∑ i ∈ range (16 * n), if key x t (b + i) = (j 0).val then (1 : ℝ) else 0 : ℝ) : EReal) := by
  induction h with
  | zero => intro j; rw [Nat.mul_zero, sum_range_zero]; exact bits_zero
  | @step n f hlt h ih =>
    intro j
    rw [storeIdx_ones f _ hlt _ ih j, Nat.mul_succ, Finset.sum_range_add, Finset.sum_range fun i => if key x t (b + (16 * n + i)) = (j 0).val then (1 : ℝ) else 0]
    congr 2
    refine sum_congr rfl fun i _ => ?_
    rw [binsOf_toNat x ht, ← add_assoc]
    rfl

/-! ## All elements -/

/-- A sum over consecutive runs of `m` is the sum over all. -/
theorem sum_runs (m : ℕ) (f : ℕ → ℝ) : ∀ W, ∑ w ∈ range W, ∑ i ∈ range m, f (m * w + i) = ∑ k ∈ range (m * W), f k
  | 0 => by simp
  | W + 1 => by rw [sum_range_succ, sum_runs m f W, Nat.mul_succ, Finset.sum_range_add]

/-- The even terms of a sum, and the odd ones. -/
theorem sum_even (f : ℕ → ℝ) : ∀ W, ∑ m ∈ range (2 * W), (if m % 2 = 0 then f m else 0) = ∑ w ∈ range W, f (2 * w)
  | 0 => by simp
  | W + 1 => by
    rw [Nat.mul_succ, sum_range_succ, sum_range_succ, sum_even f W, if_pos (by omega), if_neg (by omega), add_zero, sum_range_succ]
/-- A sum over the odd places below an even bound. -/
theorem sum_odd (f : ℕ → ℝ) : ∀ W, ∑ m ∈ range (2 * W), (if m % 2 = 0 then 0 else f m) = ∑ w ∈ range W, f (2 * w + 1)
  | 0 => by simp
  | W + 1 => by
    rw [Nat.mul_succ, sum_range_succ, sum_range_succ, sum_odd f W, if_pos (by omega), if_neg (by omega), add_zero, sum_range_succ]

/-- Element `k` of label one. -/
def isOne (t : Vec Ideal S4194304 .i32) (k : Fin 4194304) : Prop := t (pos k.val) = 1#32
/-- Whether an element has label one is decided by its label. -/
instance (t : Vec Ideal S4194304 .i32) : DecidablePred (isOne t) := fun k => inferInstanceAs (Decidable (t (pos k.val) = 1#32))
/-- Element `k`'s bin. -/
def binOf (x : Vec Ideal S4194304 .f32) (k : Fin 4194304) : ℕ := bin (F := Ideal) (x (pos k.val))

/-- The elements of label zero in bin `b`, and those of label one. -/
def cnt0 (x : Vec Ideal S4194304 .f32) (t : Vec Ideal S4194304 .i32) (b : ℕ) : ℝ := num fun k => ¬ isOne t k ∧ binOf x k = b
/-- The elements of label one in bin `b`. -/
def cnt1 (x : Vec Ideal S4194304 .f32) (t : Vec Ideal S4194304 .i32) (b : ℕ) : ℝ := num fun k => isOne t k ∧ binOf x k = b

/-- The elements counted in one of the first 32768 bins are those of label zero. -/
theorem sum_key_zero (x : Vec Ideal S4194304 .f32) {t : Vec Ideal S4194304 .i32} (ht : Labels01 t) {b : ℕ} (hb : b < 32768) :
    ∑ k ∈ range 4194304, (if key x t k = b then (1 : ℝ) else 0) = cnt0 x t b := by
  unfold cnt0 num
  rw [Finset.sum_range]
  refine sum_congr rfl fun k _ => if_congr ?_ rfl rfl
  have h := bin_lt (F := Ideal) (x (pos k.val))
  show bin (F := Ideal) (x (pos k.val)) + 32768 * (t (pos k.val)).toNat = b ↔ ¬ (t (pos k.val) = 1#32) ∧ bin (F := Ideal) (x (pos k.val)) = b
  rcases ht (pos k.val) with e | e
  · rw [e]; simp; try omega
  · rw [e]; simp; try omega

/-- The elements counted in one of the last 32768 bins are those of label one. -/
theorem sum_key_one (x : Vec Ideal S4194304 .f32) {t : Vec Ideal S4194304 .i32} (ht : Labels01 t) {b : ℕ} (_hb : b < 32768) :
    ∑ k ∈ range 4194304, (if key x t k = 32768 + b then (1 : ℝ) else 0) = cnt1 x t b := by
  unfold cnt1 num
  rw [Finset.sum_range]
  refine sum_congr rfl fun k _ => if_congr ?_ rfl rfl
  have h := bin_lt (F := Ideal) (x (pos k.val))
  show bin (F := Ideal) (x (pos k.val)) + 32768 * (t (pos k.val)).toNat = 32768 + b ↔ (t (pos k.val) = 1#32) ∧ bin (F := Ideal) (x (pos k.val)) = b
  rcases ht (pos k.val) with e | e
  · rw [e]; simp; try omega
  · rw [e]; simp; try omega

/-! ## The accumulators -/

/-- The bin of an accumulator's cell. -/
def binAt (y : S256x128.Idx) : ℕ := 128 * (y 0).val + (y 1).val

/-- A cell's bin is one of the 32768. -/
theorem binAt_lt (y : S256x128.Idx) : binAt y < 32768 := by
  have h0 : (y 0).val < 256 := (y 0).isLt
  have h1 : (y 1).val < 128 := (y 1).isLt
  unfold binAt; omega

/-- The accumulators are sums of the even tiles and of the odd ones. -/
theorem acc0_sum (H : Vec Ideal S16384x128 .f32) (τ : ℕ → S256x128.Idx → ℝ) (hτ : ∀ n < 64, ∀ y, tileOf H n y = ((τ n y : ℝ) : EReal)) (y : S256x128.Idx) :
    ∀ n ≤ 64, acc0 H n y = ((∑ m ∈ range n, (if m % 2 = 0 then τ m y else 0) : ℝ) : EReal)
  | 0, _ => by rw [sum_range_zero]; exact (congrFun (shapeCast_self (broadcast S256x128 (FloatOps.ofBits (F := Ideal) .f32 0x00000000#32)) shapeCasts_S256x128_S256x128) y).trans bits_zero
  | n + 1, hn => by
    have ih := acc0_sum H τ hτ y n (by omega)
    have h8 : ∀ a : Vec Ideal S256x128 .f32, k1_pay8 (tileOf H n) a y = (a y + tileOf H n y : EReal) := fun a => by
      unfold k1_pay8 k1_pay5; rw [shapeCast_self, shapeCast_self]; rfl
    rw [sum_range_succ]
    show next0 n (tileOf H n) (acc0 H n) y = _
    unfold next0
    by_cases h0 : n = 0
    · subst h0
      rw [if_pos rfl, h8, show (k1_pay6 (F := Ideal)) y = _ from ih, hτ 0 (by omega), ← EReal.coe_add, if_pos rfl]
    · rw [if_neg h0]
      by_cases he : n % 2 = 0
      · rw [if_pos he, if_pos he, h8, ih, hτ n (by omega), ← EReal.coe_add]
      · rw [if_neg he, if_neg he, ih, add_zero]
/-- The second accumulator sums the odd blocks. -/
theorem acc1_sum (H : Vec Ideal S16384x128 .f32) (τ : ℕ → S256x128.Idx → ℝ) (hτ : ∀ n < 64, ∀ y, tileOf H n y = ((τ n y : ℝ) : EReal)) (y : S256x128.Idx) :
    ∀ n ≤ 64, acc1 H n y = ((∑ m ∈ range n, (if m % 2 = 0 then 0 else τ m y) : ℝ) : EReal)
  | 0, _ => by rw [sum_range_zero]; exact (congrFun (shapeCast_self (broadcast S256x128 (FloatOps.ofBits (F := Ideal) .f32 0x00000000#32)) shapeCasts_S256x128_S256x128) y).trans bits_zero
  | n + 1, hn => by
    have ih := acc1_sum H τ hτ y n (by omega)
    have h9 : ∀ a : Vec Ideal S256x128 .f32, k1_pay9 (tileOf H n) a y = (a y + tileOf H n y : EReal) := fun a => by
      unfold k1_pay9 k1_pay5; rw [shapeCast_self, shapeCast_self]; rfl
    rw [sum_range_succ]
    show next1 n (tileOf H n) (acc1 H n) y = _
    unfold next1
    by_cases h0 : n = 0
    · subst h0
      rw [if_pos rfl, if_pos rfl, add_zero]; exact ih
    · rw [if_neg h0]
      by_cases he : n % 2 = 0
      · rw [if_pos he, if_pos he, ih, add_zero]
      · rw [if_neg he, if_neg he, h9, ih, hτ n (by omega), ← EReal.coe_add]

section
variable {x : Vec Ideal S4194304 .f32} {t : Vec Ideal S4194304 .i32} (ht : Labels01 t) {h : Vec Ideal S32x65536 .f32} (hh : ∀ w, RowOK x t w h)
include ht hh

/-- Tile `n` holds the counts of one label of task `n / 2`'s elements. -/
theorem tile_count (n : ℕ) (hn : n < 64) (y : S256x128.Idx) :
    tileOf (tiles h) n y = ((∑ i ∈ range 131072, (if key x t (131072 * (n / 2) + i) = 32768 * (n % 2) + binAt y then (1 : ℝ) else 0) : ℝ) : EReal) := by
  have hb := binAt_lt y
  have hlt : 32768 * (n % 2) + binAt y < 65536 := by omega
  have e := hist_count ht (hh ⟨n / 2, by omega⟩) (Shape.ofLane (d := ![65536]) ⟨32768 * (n % 2) + binAt y, hlt⟩)
  refine Eq.trans ?_ e
  unfold tileOf tiles
  refine shapeCast_apply h _ _ _ ?_
  show ((⟨2, ![32, 65536]⟩ : Shape).rowMajor _).val = ((⟨2, ![16384, 128]⟩ : Shape).rowMajor _).val
  rw [Shape.rowMajor_val_two, Shape.rowMajor_val_two]
  have h1 : (y 1).val < 128 := (y 1).isLt
  show n / 2 * 65536 + (32768 * (n % 2) + (128 * (y 0).val + (y 1).val)) = (256 * (n % 64) + (y 0).val) * 128 + (y 1).val
  omega

/-- The first accumulator counts label zero, -/
theorem acc0_count (y : S256x128.Idx) : acc0 (tiles h) 64 y = ((cnt0 x t (binAt y) : ℝ) : EReal) := by
  rw [← sum_key_zero x ht (binAt_lt y)]
  refine (acc0_sum _ _ (tile_count ht hh) y 64 le_rfl).trans (congrArg _ ((sum_even _ 32).trans (Eq.trans ?_ (sum_runs 131072 _ 32))))
  refine sum_congr rfl fun w _ => sum_congr rfl fun i _ => ?_
  rw [show 2 * w / 2 = w by omega, show 2 * w % 2 = 0 by omega, Nat.mul_zero, Nat.zero_add]

/-- the second label one. -/
theorem acc1_count (y : S256x128.Idx) : acc1 (tiles h) 64 y = ((cnt1 x t (binAt y) : ℝ) : EReal) := by
  rw [← sum_key_one x ht (binAt_lt y)]
  refine (acc1_sum _ _ (tile_count ht hh) y 64 le_rfl).trans (congrArg _ ((sum_odd _ 32).trans (Eq.trans ?_ (sum_runs 131072 _ 32))))
  refine sum_congr rfl fun w _ => sum_congr rfl fun i _ => ?_
  rw [show (2 * w + 1) / 2 = w by omega, show (2 * w + 1) % 2 = 1 by omega, Nat.mul_one]
end

end Cert.Proof.Lovasz
-- ==== Proof.Flat.lean ====
/-
  Host operations on arrays of one axis, at the extended reals: a running sum, a stable sort with the positions it
  carries along, and a gather at positions.
-/
module

public import proofs.«01_k».proof.Proof.Sums
public import Idealize.ShloMosaic.Lib.SortFacts
public import Idealize.ShloMosaic.Lib.ValueIdx

@[expose] public section

noncomputable section

namespace Cert.Proof.Lovasz

open Idealize.ShloMosaic Idealize.ShloMosaic.ValueIdx
open Finset (range univ sum_congr)

/-- A sum of reals, taken among the extended reals. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The indices of an array of one axis are its positions. -/
def flatEquiv (n : ℕ) : Fin n ≃ (⟨1, ![n]⟩ : Shape).Idx where
  toFun k := ix1 k
  invFun j := j 0
  left_inv _ := rfl
  right_inv j := (eq_ix1 j).symm

/-- A sum over the indices of an array of one axis, taken over its positions. -/
theorem sum_flat {M : Type} [AddCommMonoid M] {n : ℕ} (f : (⟨1, ![n]⟩ : Shape).Idx → M) : ∑ j, f j = ∑ k : Fin n, f (ix1 k) :=
  ((flatEquiv n).sum_comp f).symm

/-- A left fold of additions adds the list's sum. -/
theorem foldl_sum {ι : Type} (f : ι → EReal) : ∀ (l : List ι) (a : EReal), l.foldl (fun r i => r + f i) a = a + (l.map f).sum
  | [], a => by simp
  | i :: l, a => by rw [List.foldl_cons, foldl_sum f l, List.map_cons, List.sum_cons, add_assoc]

/-- The windows that end at a position, cut off at the array's start, hold the positions up to it. -/
theorem sum_window {n m : ℕ} (hm : m + 1 = n) (g : Fin n → ℝ) (k : Fin n) :
    ∑ w : Fin n, (if m ≤ k.val + w.val then g ⟨k.val + w.val - m, by omega⟩ else 0) = ∑ j ∈ univ.filter (· ≤ k), g j := by
  rw [← Finset.sum_filter]
  refine Finset.sum_nbij' (fun w => ⟨k.val + w.val - m, by omega⟩) (fun j => ⟨min (m + j.val - k.val) m, by omega⟩) ?_ ?_ ?_ ?_ ?_
  · intro w hw
    rw [Finset.mem_filter] at hw ⊢
    exact ⟨Finset.mem_univ _, by rw [Fin.le_def]; show k.val + w.val - m ≤ k.val; omega⟩
  · intro j hj
    rw [Finset.mem_filter] at hj ⊢
    have h := Fin.le_def.mp hj.2
    exact ⟨Finset.mem_univ _, by show m ≤ k.val + min (m + j.val - k.val) m; omega⟩
  · intro w hw
    rw [Finset.mem_filter] at hw
    have h := hw.2
    exact Fin.ext (by show min (m + (k.val + w.val - m) - k.val) m = w.val; omega)
  · intro j hj
    rw [Finset.mem_filter] at hj
    have h := Fin.le_def.mp hj.2
    exact Fin.ext (by show k.val + min (m + j.val - k.val) m - m = j.val; omega)
  · intro w _
    rfl

/-- A sum over the windows that end at each position is the running sum. -/
theorem running_sum {n m : ℕ} (hm : m + 1 = n) (x : (⟨1, ![n]⟩ : Shape).Idx → EReal) (g : Fin n → ℝ) (hx : ∀ k, x (ix1 k) = ((g k : ℝ) : EReal))
    {u : Shape} (init : u.Idx → EReal) (hi : ∀ i, init i = 0) (h : Shape.ReduceWindows (s := ⟨1, ![n]⟩) ![n] ![1] ![m] ![0] ⟨1, ![n]⟩)
    (hu : 0 < u.numel) (k : Fin n) :
    Host.reduceWindow (s := ⟨1, ![n]⟩) (t := ⟨1, ![n]⟩) (· + ·) ![n] ![1] ![m] ![0] x init h hu (ix1 k) = ((∑ j ∈ univ.filter (· ≤ k), g j : ℝ) : EReal) := by
  rw [← sum_window hm, ← sum_real]
  unfold Host.reduceWindow
  refine (foldl_sum _ _ _).trans ?_
  rw [hi, zero_add, ← List.ofFn_eq_map, List.sum_ofFn]
  refine ((⟨1, ![n]⟩ : Shape).rowMajor.symm.sum_comp fun y : (⟨1, ![n]⟩ : Shape).Idx =>
    if hin : ∀ a : Fin 1, (![m] : Fin 1 → ℕ) a ≤ ((ix1 k : (⟨1, ![n]⟩ : Shape).Idx) a).val * (![1] : Fin 1 → ℕ) a + (y a).val
        ∧ ((ix1 k : (⟨1, ![n]⟩ : Shape).Idx) a).val * (![1] : Fin 1 → ℕ) a + (y a).val - (![m] : Fin 1 → ℕ) a < (⟨1, ![n]⟩ : Shape).size a
    then x (fun a => ⟨((ix1 k : (⟨1, ![n]⟩ : Shape).Idx) a).val * (![1] : Fin 1 → ℕ) a + (y a).val - (![m] : Fin 1 → ℕ) a, (hin a).2⟩) else (0 : EReal)).trans ?_
  rw [sum_flat]
  refine sum_congr rfl fun w _ => ?_
  by_cases e : m ≤ k.val + w.val
  · have hin : ∀ a : Fin 1, (![m] : Fin 1 → ℕ) a ≤ ((ix1 k : (⟨1, ![n]⟩ : Shape).Idx) a).val * (![1] : Fin 1 → ℕ) a + ((ix1 w : (⟨1, ![n]⟩ : Shape).Idx) a).val
        ∧ ((ix1 k : (⟨1, ![n]⟩ : Shape).Idx) a).val * (![1] : Fin 1 → ℕ) a + ((ix1 w : (⟨1, ![n]⟩ : Shape).Idx) a).val - (![m] : Fin 1 → ℕ) a < (⟨1, ![n]⟩ : Shape).size a := fun a => by
      match a with
      | ⟨0, _⟩ => exact ⟨by show m ≤ k.val * 1 + w.val; omega, by show k.val * 1 + w.val - m < n; omega⟩
    rw [dif_pos hin, if_pos e, ← hx]
    refine congrArg x (funext fun a => ?_)
    match a with
    | ⟨0, _⟩ => exact Fin.ext (by show k.val * 1 + w.val - m = k.val + w.val - m; omega)
  · rw [dif_neg, if_neg e]
    · rfl
    · intro hin
      have h0 : m ≤ k.val * 1 + w.val := (hin 0).1
      omega

/-- The host's float running sum, of reals. -/
theorem hostSum_real {n m : ℕ} (hm : m + 1 = n) (x : FVec Ideal ⟨1, ![n]⟩ .f32) (g : Fin n → ℝ) (hx : ∀ k, x (ix1 k) = ((g k : ℝ) : EReal))
    {u : Shape} (init : FVec Ideal u .f32) (hi : ∀ i, init i = (0 : EReal)) (h : Shape.ReduceWindows (s := ⟨1, ![n]⟩) ![n] ![1] ![m] ![0] ⟨1, ![n]⟩)
    (hu : 0 < u.numel) (k : Fin n) :
    (Host.reduceWindowAdd ![n] ![1] ![m] ![0] x init h hu (ix1 k) : EReal) = ((∑ j ∈ univ.filter (· ≤ k), g j : ℝ) : EReal) :=
  running_sum hm x g hx (fun _ : (⟨0, ![]⟩ : Shape).Idx => init (Shape.Idx.first hu)) (fun _ => hi _) h (by decide) k

/-- The host's float sum of a whole array of one axis, of reals. -/
theorem hostTotal_real {n : ℕ} (x : FVec Ideal ⟨1, ![n]⟩ .f32) (g : Fin n → ℝ) (hx : ∀ k, x (ix1 k) = ((g k : ℝ) : EReal))
    {u : Shape} (init : FVec Ideal u .f32) (hi : ∀ i, init i = (0 : EReal)) {axes : List (Fin 1)}
    (h : Shape.ReducesTo (⟨1, ![n]⟩ : Shape) axes (⟨0, ![]⟩ : Shape)) (hu : 0 < u.numel) (j : (⟨0, ![]⟩ : Shape).Idx) :
    (Host.reduceAdd x init h hu j : EReal) = ((∑ k, g k : ℝ) : EReal) := by
  show Ideal.hostReduceAdd h x (init (Shape.Idx.first hu)) j = _
  unfold Ideal.hostReduceAdd
  rw [hi, zero_add, Finset.filter_true_of_mem fun i _ => funext fun a => a.elim0, sum_flat, ← sum_real]
  exact sum_congr rfl fun k _ => hx k

/-- A stable sort by negated reals, least first, that carries a second array along: the second array is read through
    a bijection of the positions under which the reals do not increase. -/
theorem sort_real {n : ℕ} (cmp : EReal × BitVec 32 → EReal × BitVec 32 → BitVec 1) (hcmp : ∀ l r, cmp l r = BitVec.ofBool (decide (l.1 < r.1)))
    (x : (⟨1, ![n]⟩ : Shape).Idx → EReal) (e : Fin n → ℝ) (hx : ∀ k, x (ix1 k) = ((-e k : ℝ) : EReal)) (y : (⟨1, ![n]⟩ : Shape).Idx → BitVec 32) :
    ∃ σ : Fin n → Fin n, Function.Bijective σ ∧ (∀ i j, i ≤ j → e (σ j) ≤ e (σ i))
      ∧ ∀ k, (Host.sort2 ⟨1, ![n]⟩ 0 cmp x y).2 (ix1 k) = y (ix1 (σ k)) := by
  have hR : ∀ k k' : Fin n, (cmp (x (ix1 k), y (ix1 k)) (x (ix1 k'), y (ix1 k')) == 1#1) = decide (e k' < e k) := fun k k' => by
    rw [hcmp, hx, hx]
    show (BitVec.ofBool (decide (((-e k : ℝ) : EReal) < ((-e k' : ℝ) : EReal))) == 1#1) = _
    rw [show decide (((-e k : ℝ) : EReal) < ((-e k' : ℝ) : EReal)) = decide (e k' < e k) from by
      rw [decide_eq_decide, EReal.coe_lt_coe_iff, neg_lt_neg_iff]]
    cases decide (e k' < e k) <;> rfl
  have ho : ∀ k : Fin n, (Shape.Idx.ofFin k : (⟨1, ![n]⟩ : Shape).Idx) = ix1 k := fun k => eq_ix1 _
  refine ⟨sortedFrom fun k k' => decide (e k' < e k), ⟨sortedFrom_injective _, sortedFrom_surjective _⟩, fun i j hij => ?_, fun k => ?_⟩
  · rcases hij.eq_or_lt with rfl | hlt
    · exact le_refl _
    · have h := sortedFrom_noInversion (fun k k' => decide (e k' < e k)) (fun k k' => decide (e k' < e k))
        (fun a b h => by simp only [decide_eq_true_eq, decide_eq_false_iff_not, not_lt] at h ⊢; exact h.le) (fun _ _ h => h)
        (fun a b c h h' => by simp only [decide_eq_false_iff_not, not_lt] at h h' ⊢; exact h.trans h') i j hlt
      simpa using h
  · unfold Host.sort2
    rw [dif_pos (show 0 < (⟨1, ![n]⟩ : Shape).rank from Nat.one_pos)]
    refine congrArg y ?_
    refine (Shape.Idx.along_rank1 _ _).trans ((ho _).trans (congrArg ix1 ?_))
    refine congrFun (congrArg sortedFrom (funext fun a => funext fun b => ?_)) k
    rw [← hR a b, ← ho a, ← ho b, ← Shape.Idx.along_rank1 (ix1 k) a, ← Shape.Idx.along_rank1 (ix1 k) b]
    rfl

/-- A gather of single elements at a column of positions. -/
abbrev takeFlat (n : ℕ) (wf : GatherDims.WF ⟨1, ![n]⟩ ⟨2, ![n, 1]⟩ ⟨1, ![n]⟩ [] [0] [] [0] [] 1 ![1]) :
    GatherDims ⟨1, ![n]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- Such a gather reads the element at the position its index names. -/
theorem take_apply {α : Type} {n : ℕ} (hn : n < 2 ^ 31) (wf : GatherDims.WF ⟨1, ![n]⟩ ⟨2, ![n, 1]⟩ ⟨1, ![n]⟩ [] [0] [] [0] [] 1 ![1])
    (x : (⟨1, ![n]⟩ : Shape).Idx → α) (idx : IVec ⟨2, ![n, 1]⟩ 32) (k p : Fin n) (hp : idx (ix2 k 0) = BitVec.ofNat 32 p.val) :
    Host.gather (takeFlat n wf) x idx (ix1 k) = x (ix1 p) := by
  refine congrArg x (funext fun a => ?_)
  obtain rfl : a = 0 := Subsingleton.elim _ _
  refine Fin.ext ?_
  show (takeFlat n wf).start (ix1 k) idx 0 + (takeFlat n wf).batchCoord (ix1 k) 0 + (takeFlat n wf).offCoord (ix1 k) 0 = p.val
  have h0 : (0 : Fin 1) ∈ (takeFlat n wf).startIndexMap := List.mem_singleton.mpr rfl
  rw [GatherDims.batchCoord_eq_zero _ _ _ List.not_mem_nil, GatherDims.offCoord_eq_zero _ _ _ fun h => ((GatherDims.mem_sKept _ _).mp h).1 h0]
  unfold GatherDims.start
  rw [dif_pos h0]
  have hs : (takeFlat n wf).siIdx (ix1 k) ⟨List.idxOf (0 : Fin 1) (takeFlat n wf).startIndexMap, List.idxOf_lt_length_iff.2 h0⟩ = ix2 k 0 := by
    funext b
    refine Fin.ext ?_
    match b with
    | ⟨0, _⟩ => rfl
    | ⟨1, _⟩ => rfl
  rw [hs, hp]
  have ht : (BitVec.ofNat 32 p.val).toInt = (p.val : ℤ) := by
    have := p.isLt
    rw [BitVec.toInt_eq_toNat_of_lt (by rw [BitVec.toNat_ofNat]; omega), BitVec.toNat_ofNat, Nat.mod_eq_of_lt (by omega)]
  rw [ht]
  show min ((p.val : ℤ).toNat) (n - 1) + 0 + 0 = p.val
  have := p.isLt
  omega

end Cert.Proof.Lovasz
-- ==== Proof.BinLoss.lean ====
/-
  The loss the TensorCore call computes at the extended reals, of the bins' counts: the real number `binLoss`.
-/
module

public import proofs.«01_k».proof.Proof.Counts
public import proofs.«01_k».proof.Proof.Flat
public import Idealize.ShloMosaic.Lib.MatmulPlain

@[expose] public section

noncomputable section

namespace Cert.Proof.Lovasz

open Cert.KernelIdeal Cert.KernelIdeal.Gen
open Idealize.ShloMosaic Idealize.ShloMosaic.ValueIdx
open Finset (range univ sum_congr sum_range_succ sum_range_zero)

/-! ## Real values among the extended ones -/

/-- A quotient of reals by a real other than zero. -/
theorem div_real (x : ℝ) {y : ℝ} (hy : y ≠ 0) : Ideal.div (x : EReal) (y : EReal) = ((x / y : ℝ) : EReal) := by
  rw [Ideal.div_coe hy, ← EReal.coe_mul, mul_one_div]

/-- The constant one half. -/
theorem bits_half : (FloatOps.ofBits .f32 0x3F000000#32 : Ideal .f32) = ((1 / 2 : ℝ) : EReal) := by
  show Ideal.ofBits .f32 _ = _
  simp [Ideal.ofBits, Ideal.ieee, -EReal.coe_mul]
  norm_num

/-- The constant 24 / 32768, a bin's width. -/
theorem bits_width : (FloatOps.ofBits .f32 0x3A400000#32 : Ideal .f32) = ((3 / 4096 : ℝ) : EReal) := by
  show Ideal.ofBits .f32 _ = _
  simp [Ideal.ofBits, Ideal.ieee, -EReal.coe_mul]
  norm_num

/-- The constant -12, the lowest bin's left end. -/
theorem bits_low : (FloatOps.ofBits .f32 0xC1400000#32 : Ideal .f32) = ((-12 : ℝ) : EReal) := by
  show Ideal.ofBits .f32 _ = _
  simp [Ideal.ofBits, Ideal.ieee, -EReal.coe_mul, -EReal.coe_neg]
  norm_num

/-- The constant 4194304, the number of elements. -/
theorem bits_count : (FloatOps.ofBits .f32 0x4A800000#32 : Ideal .f32) = ((4194304 : ℝ) : EReal) := by
  show Ideal.ofBits .f32 _ = _
  simp [Ideal.ofBits, Ideal.ieee, -EReal.coe_mul]
  norm_num

/-! ## Sums over a block of bins -/

/-- A sum over the cells of a block, of a function of the cell's bin, is the sum over the bins. -/
theorem sum_bins (g : ℕ → ℝ) : ∑ y : S256x128.Idx, g (binAt y) = ∑ b ∈ range 32768, g b := by
  have h : ∀ y : S256x128.Idx, binAt y = (S256x128.rowMajor y).val := fun y => by
    show _ = ((⟨2, ![256, 128]⟩ : Shape).rowMajor y).val
    rw [Shape.rowMajor_val_two]
    show 128 * (y 0).val + (y 1).val = (y 0).val * 128 + (y 1).val
    omega
  simp only [h]
  rw [(S256x128.rowMajor).sum_comp fun k => g k.val, ← Finset.sum_range, show S256x128.numel = 32768 by decide]

/-- The sum of a whole block, as the call takes it. -/
def total (v : FVec Ideal S256x128 .f32) : EReal :=
  extractAt ![0, 0, 0] (shapeCast S1x1x1 (multiReduction .add [1, 2] S1 (shapeCast S1x256x128 v shapeCasts_S256x128_S1x256x128) 0x00000000#32 reduces_S1x256x128_S1 (.inl rfl) rfl) shapeCasts_S1_S1x1x1) inpos_S1x1x1_p0_0_0

/-- The sum of a block that holds reals by bin is the sum over the bins. -/
theorem total_real (v : FVec Ideal S256x128 .f32) (g : ℕ → ℝ) (hv : ∀ y, v y = ((g (binAt y) : ℝ) : EReal)) :
    total v = ((∑ b ∈ range 32768, g b : ℝ) : EReal) := by
  rw [← sum_bins, ← sum_real]
  show Ideal.reduceAdd reduces_S1x256x128_S1 (shapeCast S1x256x128 v shapeCasts_S256x128_S1x256x128) _ = _
  unfold Ideal.reduceAdd
  rw [Finset.filter_true_of_mem fun i _ => funext fun a => by
    apply Fin.ext
    have h1 : ∀ z : Fin (S1.size a), z.val = 0 := fun z => by
      have h : S1.size a = 1 := by obtain rfl : a = (0 : Fin 1) := Subsingleton.elim _ _; rfl
      have := z.isLt
      omega
    rw [h1, h1]]
  simp only [← hv]
  exact (Shape.reshapeEquiv shapeCasts_S256x128_S1x256x128).sum_comp v

/-! ## Counting the bins through one -/

/-- One where the condition holds. -/
theorem cond_real (p : Bool) : (FloatOps.sitofp .f32 ((BitVec.ofBool p).setWidth 32) : Ideal .f32) = (((if p then 1 else 0) : ℝ) : EReal) := by
  show ((((BitVec.ofBool p).setWidth 32).toInt : ℝ) : EReal) = _
  cases p <;> simp

/-- The comparison of two small numbers as words. -/
theorem slt_small {a b : ℕ} (ha : a < 1024) (hb : b < 1024) : (BitVec.ofNat 32 a).slt (BitVec.ofNat 32 b) = decide (a < b) := by
  rw [BitVec.slt, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp
/-- Small words compare (at most) as their numbers. -/
theorem sle_small {a b : ℕ} (ha : a < 1024) (hb : b < 1024) : (BitVec.ofNat 32 a).sle (BitVec.ofNat 32 b) = decide (a ≤ b) := by
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- The rows above each row, and the columns through each column, as the call builds them. -/
def rowsAbove : FVec Ideal S256x256 .f32 :=
  sitofp .f32 (extui 32 (cmpi .sgt (iota .tc S256x256 32 [0] iota_S256x256_d0_w32) (iota .tc S256x256 32 [1] iota_S256x256_d1_w32)) natLt_1_32)
/-- The columns at or before each column, as ones. -/
def colsThrough : FVec Ideal S128x128 .f32 :=
  sitofp .f32 (extui 32 (cmpi .sle (iota .tc S128x128 32 [0] iota_S128x128_d0_w32) (iota .tc S128x128 32 [1] iota_S128x128_d1_w32)) natLt_1_32)

/-- An entry of `rowsAbove`. -/
theorem rowsAbove_apply (r k : Fin 256) : rowsAbove (ix2 r k) = (((if k.val < r.val then 1 else 0) : ℝ) : EReal) := by
  have h : (BitVec.ofNat 32 (0 * 256 + k.val)).slt (BitVec.ofNat 32 (0 * 256 + r.val)) = decide (k.val < r.val) := by
    rw [Nat.zero_mul, Nat.zero_add, Nat.zero_add]; exact slt_small (by omega) (by omega)
  show (FloatOps.sitofp .f32 ((BitVec.ofBool ((BitVec.ofNat 32 (0 * 256 + k.val)).slt (BitVec.ofNat 32 (0 * 256 + r.val)))).setWidth 32) : Ideal .f32) = _
  rw [h, cond_real]
  simp

/-- An entry of `colsThrough`. -/
theorem colsThrough_apply (k c : Fin 128) : colsThrough (ix2 k c) = (((if k.val ≤ c.val then 1 else 0) : ℝ) : EReal) := by
  have h : (BitVec.ofNat 32 (0 * 128 + k.val)).sle (BitVec.ofNat 32 (0 * 128 + c.val)) = decide (k.val ≤ c.val) := by
    rw [Nat.zero_mul, Nat.zero_add, Nat.zero_add]; exact sle_small (by omega) (by omega)
  show (FloatOps.sitofp .f32 ((BitVec.ofBool ((BitVec.ofNat 32 (0 * 128 + k.val)).sle (BitVec.ofNat 32 (0 * 128 + c.val)))).setWidth 32) : Ideal .f32) = _
  rw [h, cond_real]
  simp

/-- The running sum through each cell: the rows above it, and its own row's columns through it. -/
def through (v : FVec Ideal S256x128 .f32) : FVec Ideal S256x128 .f32 :=
  addf (matmul dot_S256x256_S256x128_S256x128_1_0_0_1_n_n none rowsAbove
      (matmul dot_S256x128_S128x128_S256x128_1_0_0_1_n_n none v (broadcast S128x128 (Scalar.ofBits .f32 0x3F800000#32)) (constant S256x128 .f32 0x00000000#32))
      (constant S256x128 .f32 0x00000000#32))
    (matmul dot_S256x128_S128x128_S256x128_1_0_0_1_n_n none v colsThrough (constant S256x128 .f32 0x00000000#32))

/-- The running sum of a block that holds reals by bin is the sum over the bins up to the cell's own. -/
theorem through_real (v : FVec Ideal S256x128 .f32) (g : ℕ → ℝ) (hv : ∀ y, v y = ((g (binAt y) : ℝ) : EReal)) (y : S256x128.Idx) :
    through v y = ((∑ b ∈ range (binAt y + 1), g b : ℝ) : EReal) := by
  obtain ⟨r, c, rfl⟩ : ∃ (r : Fin 256) (c : Fin 128), y = ix2 r c := ⟨y 0, y 1, eq_ix2 y⟩
  have hv' : ∀ (r : Fin 256) (k : Fin 128), v (ix2 r k) = ((g (128 * r.val + k.val) : ℝ) : EReal) := fun r k => hv _
  have hz : ∀ (r : Fin 256) (k : Fin 128), (constant S256x128 .f32 0x00000000#32 : FVec Ideal S256x128 .f32) (ix2 r k) = ((0 : ℝ) : EReal) := fun _ _ => bits_zero
  have hrow : ∀ (k : Fin 256), FloatOps.matmul (F := Ideal) (DotDims.plain 256 128 128) none v (broadcast S128x128 (Scalar.ofBits (F := Ideal) .f32 0x3F800000#32)) (constant S256x128 .f32 0x00000000#32) (ix2 k c)
      = ((∑ i ∈ range 128, g (128 * k.val + i) : ℝ) : EReal) := fun k => by
    rw [Ideal.matmul_plain_apply, hz, Finset.sum_range fun i => g (128 * k.val + i), ← sum_real, EReal.coe_zero, zero_add]
    refine sum_congr rfl fun i _ => ?_
    rw [hv']
    show _ * (FloatOps.ofBits .f32 0x3F800000#32 : Ideal .f32) = _
    rw [bits_one, EReal.coe_one, mul_one]
  show (FloatOps.matmul (F := Ideal) (DotDims.plain 256 256 128) none rowsAbove (FloatOps.matmul (F := Ideal) (DotDims.plain 256 128 128) none v (broadcast S128x128 (Scalar.ofBits (F := Ideal) .f32 0x3F800000#32)) (constant S256x128 .f32 0x00000000#32)) (constant S256x128 .f32 0x00000000#32) (ix2 r c)
    + FloatOps.matmul (F := Ideal) (DotDims.plain 256 128 128) none v colsThrough (constant S256x128 .f32 0x00000000#32) (ix2 r c) : EReal) = _
  rw [Ideal.matmul_plain_apply, Ideal.matmul_plain_apply, hz]
  simp only [hrow, rowsAbove_apply, colsThrough_apply, hv', ← EReal.coe_mul, sum_real, ← EReal.coe_add]
  congr 1
  rw [zero_add, zero_add, show binAt (ix2 r c) + 1 = 128 * r.val + (c.val + 1) from rfl, Finset.sum_range_add, ← sum_runs 128 g r.val]
  congr 1
  · rw [← Finset.sum_range fun k => (if k < r.val then (1 : ℝ) else 0) * ∑ i ∈ range 128, g (128 * k + i)]
    simp only [ite_mul, one_mul, zero_mul]
    rw [← Finset.sum_filter]
    refine Finset.sum_congr (Finset.ext fun k => ?_) fun _ _ => rfl
    have := r.isLt
    simp only [Finset.mem_filter, Finset.mem_range]
    omega
  · rw [← Finset.sum_range fun k => g (128 * r.val + k) * (if k ≤ c.val then (1 : ℝ) else 0)]
    simp only [mul_ite, mul_one, mul_zero]
    rw [← Finset.sum_filter]
    refine Finset.sum_congr (Finset.ext fun k => ?_) fun _ _ => rfl
    have := c.isLt
    simp only [Finset.mem_filter, Finset.mem_range]
    omega

/-! ## The loss -/

/-- The share at a bin's centre: the logistic function of `-12 + (b + 1/2) * 24 / 32768`. -/
def share (b : ℕ) : ℝ := 1 / (1 + Real.exp (-(-12 + ((b : ℝ) + 1 / 2) * (3 / 4096))))

/-- The Jaccard term as the call computes it. -/
theorem jac_ideal (P x : ℝ) : Ideal.div (x : EReal) (max ((P : EReal) + (x : EReal)) (FloatOps.ofBits .f32 0x3F800000#32 : Ideal .f32)) = ((jac P x : ℝ) : EReal) := by
  rw [bits_one, ← EReal.coe_add]
  have h : max ((P + x : ℝ) : EReal) ((1 : ℝ) : EReal) = ((max (P + x) 1 : ℝ) : EReal) := (EReal.coe_strictMono.monotone.map_max).symm
  rw [h, div_real _ (ne_of_gt (lt_of_lt_of_le one_pos (le_max_right _ _)))]
  rfl

section
variable (a b : FVec Ideal S256x128 .f32) (c0 c1 : ℕ → ℝ) (ha : ∀ y, a y = ((c0 (binAt y) : ℝ) : EReal)) (hb : ∀ y, b y = ((c1 (binAt y) : ℝ) : EReal))
include ha hb

/-- What a bin's elements of label zero weigh. -/
def weight (c0 c1 : ℕ → ℝ) (n : ℕ) : ℝ :=
  jac (∑ i ∈ range 32768, c1 i) ((∑ i ∈ range 32768, c0 i) - (∑ i ∈ range (n + 1), c0 i) + c0 n)
    - jac (∑ i ∈ range 32768, c1 i) ((∑ i ∈ range 32768, c0 i) - ∑ i ∈ range (n + 1), c0 i)

/-- The call's weights are the bins' weights. -/
theorem pay2_real (y : S256x128.Idx) : k1_pay2 (F := Ideal) a b y = ((weight c0 c1 (binAt y) : ℝ) : EReal) := by
  show (Ideal.div (total a - through a y + a y) (max (total b + (total a - through a y + a y)) (FloatOps.ofBits .f32 0x3F800000#32 : Ideal .f32))
    - Ideal.div (total a - through a y) (max (total b + (total a - through a y)) (FloatOps.ofBits .f32 0x3F800000#32 : Ideal .f32)) : EReal) = _
  rw [total_real a c0 ha, total_real b c1 hb, through_real a c0 ha, ha, ← EReal.coe_sub, ← EReal.coe_add, jac_ideal, jac_ideal, ← EReal.coe_sub]
  rfl

omit ha hb in
/-- A cell's bin, as the call numbers it. -/
theorem pay3_real (y : S256x128.Idx) : k1_pay3 (F := Ideal) y = ((binAt y : ℝ) : EReal) := by
  have h0 : (y 0).val < 256 := (y 0).isLt
  have h1 : (y 1).val < 128 := (y 1).isLt
  show (((BitVec.ofNat 32 (0 * 256 + (y 0).val) * 128#32 + BitVec.ofNat 32 (0 * 128 + (y 1).val)).toInt : ℝ) : EReal) = _
  have e : (BitVec.ofNat 32 (0 * 256 + (y 0).val) * 128#32 + BitVec.ofNat 32 (0 * 128 + (y 1).val)).toNat = binAt y := by
    unfold binAt
    simp only [BitVec.toNat_add, BitVec.toNat_mul, BitVec.toNat_ofNat]
    omega
  rw [BitVec.toInt_eq_toNat_of_lt (by rw [e]; have := binAt_lt y; omega), e]
  simp

/-- The share of a cell's bin, as the call computes it. -/
def shareAt (v : FVec Ideal S256x128 .f32) (w : FVec Ideal S256x128 .f32) : FVec Ideal S256x128 .f32 :=
  divf (broadcast S256x128 (Scalar.ofBits .f32 0x3F800000#32)) (addf (broadcast S256x128 (Scalar.ofBits .f32 0x3F800000#32))
    (exp (subf (broadcast S256x128 (Scalar.ofBits .f32 0x00000000#32)) (addf (broadcast S256x128 (Scalar.ofBits .f32 0xC1400000#32))
      (mulf (addf v w) (broadcast S256x128 (Scalar.ofBits .f32 0x3A400000#32)))))))

omit ha hb in
/-- The call's shares are the shares at the bins' centres. -/
theorem shareAt_real (y : S256x128.Idx) : shareAt k1_pay3 k1_pay4 y = ((share (binAt y) : ℝ) : EReal) := by
  show Ideal.div (FloatOps.ofBits .f32 0x3F800000#32 : Ideal .f32) ((FloatOps.ofBits .f32 0x3F800000#32 : Ideal .f32) + Ideal.exp ((FloatOps.ofBits .f32 0x00000000#32 : Ideal .f32)
    - ((FloatOps.ofBits .f32 0xC1400000#32 : Ideal .f32) + (k1_pay3 (F := Ideal) y + (FloatOps.ofBits .f32 0x3F000000#32 : Ideal .f32)) * (FloatOps.ofBits .f32 0x3A400000#32 : Ideal .f32)))) = _
  rw [pay3_real, bits_one, bits_zero, bits_low, bits_half, bits_width, ← EReal.coe_add, ← EReal.coe_mul, ← EReal.coe_add, ← EReal.coe_sub, Ideal.exp_coe, ← EReal.coe_add, div_real]
  · unfold share; rw [zero_sub]
  · positivity

/-- The loss of the two accumulators. -/
theorem lossOf_real (i : S1x1.Idx) : (lossOf (F := Ideal) a b i : EReal) = ((binLoss 32768 4194304 c0 c1 share : ℝ) : EReal) := by
  show (total (mulf (k1_pay2 a b) (addf (broadcast S256x128 (Scalar.ofBits .f32 0x3F800000#32)) (shareAt k1_pay3 k1_pay4)))
    + Ideal.div (total (mulf b (subf (broadcast S256x128 (Scalar.ofBits .f32 0x3F800000#32)) (shareAt k1_pay3 k1_pay4)))) (FloatOps.ofBits .f32 0x4A800000#32 : Ideal .f32) : EReal) = _
  rw [total_real _ (fun n => weight c0 c1 n * (1 + share n)) fun y => ?_, total_real _ (fun n => c1 n * (1 - share n)) fun y => ?_, bits_count, div_real _ (by norm_num), ← EReal.coe_add]
  · rfl
  · show (b y * ((FloatOps.ofBits .f32 0x3F800000#32 : Ideal .f32) - shareAt k1_pay3 k1_pay4 y) : EReal) = _
    rw [hb, shareAt_real, bits_one, ← EReal.coe_sub, ← EReal.coe_mul]
  · show (k1_pay2 (F := Ideal) a b y * ((FloatOps.ofBits .f32 0x3F800000#32 : Ideal .f32) + shareAt k1_pay3 k1_pay4 y) : EReal) = _
    rw [pay2_real a b c0 c1 ha hb, shareAt_real, bits_one, ← EReal.coe_add, ← EReal.coe_mul]
end

/-- The program's result, of histograms every row of which is its task's. -/
theorem result_real {x : Vec Ideal S4194304 .f32} {t : Vec Ideal S4194304 .i32} (ht : Labels01 t) {h : Vec Ideal S32x65536 .f32} (hh : ∀ w, RowOK x t w h)
    (i : S_.Idx) : (result (F := Ideal) h i : EReal) = ((binLoss 32768 4194304 (cnt0 x t) (cnt1 x t) share : ℝ) : EReal) :=
  lossOf_real _ _ _ _ (acc0_count ht hh) (acc1_count ht hh) (Shape.reshapeEquiv shapeCasts_S1x1_S_ i)

end Cert.Proof.Lovasz
-- ==== Proof.RefLoss.lean ====
/-
  The reference's loss at the extended reals, for labels of zero and one: the errors are the shares at the bins'
  centres, the sort orders them downwards, and the sum of errors times Jaccard differences is the binned loss.
-/
module

public import proofs.«01_k».proof.Proof.BinLoss
public import proofs.«01_k».proof.Proof.Gen.ReferenceIdeal.Run

@[expose] public section

noncomputable section

namespace Cert.Proof.Lovasz

open Cert.ReferenceIdeal Cert.ReferenceIdeal.Gen
open Idealize.ShloMosaic Idealize.ShloMosaic.ValueIdx Idealize.ShloMosaic.TcCoe
open Finset (range univ sum_congr)

/-! ## The reference's stages -/

section
variable {F : FTy → Type} [FloatOps F] (x : FVec F S16x512x512 .f32) (t : IVec S16x512x512 32)

/-- The cell each score falls in. -/
def quant : IVec S16x512x512 32 :=
  minsi (broadcastInDim S16x512x512 ![] bcast_S_S16x512x512 (id (constantI S_ 32 32767#32)))
    (maxsi (broadcastInDim S16x512x512 ![] bcast_S_S16x512x512 (id (constantI S_ 32 0#32)))
      (fptosi 32 (mulf (addf x (broadcastInDim S16x512x512 ![] bcast_S_S16x512x512 (constant S_ .f32 0x41400000#32)))
        (broadcastInDim S16x512x512 ![] bcast_S_S16x512x512 (constant S_ .f32 0x44AAAAAB#32)))))

/-- The logistic function of each cell's centre, flat. -/
def shares : FVec F S4194304 .f32 :=
  shapeCast _ (Host.divf (broadcastInDim S16x512x512 ![] bcast_S_S16x512x512 (constant S_ .f32 0x3F800000#32))
    (addf (broadcastInDim S16x512x512 ![] bcast_S_S16x512x512 (constant S_ .f32 0x3F800000#32))
      (Host.exp (Host.negf (addf (broadcastInDim S16x512x512 ![] bcast_S_S16x512x512 (constant S_ .f32 0xC1400000#32))
        (mulf (addf (sitofp .f32 (quant x)) (broadcastInDim S16x512x512 ![] bcast_S_S16x512x512 (constant S_ .f32 0x3F000000#32)))
          (broadcastInDim S16x512x512 ![] bcast_S_S16x512x512 (constant S_ .f32 0x3A400000#32)))))))) shapeCasts_S16x512x512_S4194304

/-- The errors: one less the share times the label's sign. -/
def errors : FVec F S4194304 .f32 :=
  subf (broadcastInDim S4194304 ![] bcast_S_S4194304 (constant S_ .f32 0x3F800000#32))
    (mulf (shares x) (subf (mulf (broadcastInDim S4194304 ![] bcast_S_S4194304 (constant S_ .f32 0x40000000#32))
      (sitofp .f32 (shapeCast _ t shapeCasts_S16x512x512_S4194304 : IVec S4194304 32))) (broadcastInDim S4194304 ![] bcast_S_S4194304 (constant S_ .f32 0x3F800000#32))))

/-- The positions, ordered by falling error. -/
def order : IVec S4194304 32 :=
  (Host.sort2 S4194304 0 comparator_f32_i32_d0 (Host.negf (errors x t) : (⟨S4194304, .f32⟩ : BufTy).Contents (Elt F)) (iotaInDim S4194304 32 0)).2

/-- Those positions as a gather's start indices. -/
def starts : IVec S4194304x1 32 :=
  broadcastInDim S4194304x1 ![0] bcast_S4194304_S4194304x1_0
    (select (cmpi .slt (order x t) (broadcastInDim S4194304 ![] bcast_S_S4194304 (constantI S_ 32 0#32)))
      (addi (order x t) (broadcastInDim S4194304 ![] bcast_S_S4194304 (constantI S_ 32 4194304#32))) (order x t))

/-- The errors in that order. -/
def sortedErrors : FVec F S4194304 .f32 := Host.gather gather_S4194304_S4194304x1_S4194304_n_0_n_n_0_1_1 (errors x t) (starts x t)

/-- The labels in that order. -/
def sortedLabels : FVec F S4194304 .f32 :=
  sitofp .f32 (Host.gather gather_S4194304_S4194304x1_S4194304_n_0_n_n_0_1_1 (shapeCast _ t shapeCasts_S16x512x512_S4194304 : IVec S4194304 32) (starts x t))

variable (y : FVec F S4194304 .f32)

/-- The labels' sum at every position. -/
def allOnes : FVec F S4194304 .f32 :=
  broadcastInDim S4194304 ![] bcast_S_S4194304 (Host.reduceAdd y (constant S_ .f32 0x00000000#32) reducesTo_S4194304_S_d0 h_S_)

/-- A running sum. -/
def running : FVec F S4194304 .f32 :=
  Host.reduceWindowAdd ![4194304] ![1] ![4194303] ![0] y (broadcastInDim S_ ![] bcast_S_S_ (constant S_ .f32 0x00000000#32))
    reduceWindows_S4194304_S4194304_w4194304s1p4194303_0 h_S_

/-- The Jaccard term of every prefix. -/
def jaccard : FVec F S4194304 .f32 :=
  subf (broadcastInDim S4194304 ![] bcast_S_S4194304 (constant S_ .f32 0x3F800000#32))
    (Host.divf (subf (allOnes y) (running y))
      (addf (allOnes y) (running (subf (broadcastInDim S4194304 ![] bcast_S_S4194304 (constant S_ .f32 0x3F800000#32)) y))))

/-- The first element, then each element less the one before it. -/
def differences : FVec F S4194304 .f32 :=
  concatenate S4194304 0 [⟨S1, extractStridedSlice S1 ![0] y slices_S4194304_S1_0⟩,
    ⟨S4194303, subf (extractStridedSlice S4194303 ![1] y slices_S4194304_S4194303_1) (extractStridedSlice S4194303 ![0] y slices_S4194304_S4194303_0)⟩]
    concatenates_S1_S4194303_S4194304_d0

/-- The reference's loss. -/
def refLoss : FVec F S_ .f32 :=
  Host.reduceAdd (mulf (maximumf (sortedErrors x t) (broadcastInDim S4194304 ![] bcast_S_S4194304 (constant S_ .f32 0x00000000#32)))
    (differences (jaccard (sortedLabels x t)))) (constant S_ .f32 0x00000000#32) reducesTo_S4194304_S_d0 h_S_
end

set_option maxRecDepth 8192 in
/-- What the reference's run leaves is its loss. -/
theorem res_eq {F : FTy → Type} [FloatOps F] (m : (ℓ : Loc nD τ sig) → Buf (Elt F) ℓ) (c : Dev nD) :
    Value.res_out0 m c = refLoss (F := F) (m ((c.tc : Thread nD τ).loc main_arg0)) (m ((c.tc : Thread nD τ).loc main_arg1)) := rfl

/-! ## The stages' values -/

/-- Element `k` of a flat array stands at position `k`. -/
theorem pos_flat (k : Fin 4194304) : pos k.val = ix1 k :=
  (eq_ix1 (pos k.val)).trans (congrArg ix1 (Fin.ext (Nat.mod_eq_of_lt k.isLt)))

/-- The constant two. -/
theorem bits_two : (FloatOps.ofBits .f32 0x40000000#32 : Ideal .f32) = ((2 : ℝ) : EReal) := by
  show Ideal.ofBits .f32 _ = _
  simp [Ideal.ofBits, Ideal.ieee, -EReal.coe_mul]
  norm_num

/-- A clamp names its bounds in either order. -/
theorem clamp_swap (v : BitVec 32) : IntOp.minsi 32767#32 (IntOp.maxsi 0#32 v) = IntOp.minsi (IntOp.maxsi v 0#32) 32767#32 := by
  have h : IntOp.maxsi 0#32 v = IntOp.maxsi v 0#32 := by
    unfold IntOp.maxsi
    by_cases h1 : v.slt 0#32 = true <;> by_cases h2 : (0#32).slt v = true <;> simp only [h1, h2, if_true, if_false, Bool.false_eq_true]
    all_goals
      refine BitVec.eq_of_toInt_eq ?_
      rw [BitVec.slt_iff_toInt_lt] at h1 h2
      omega
  rw [h]
  generalize IntOp.maxsi v 0#32 = w
  unfold IntOp.minsi
  by_cases h1 : w.slt 32767#32 = true <;> by_cases h2 : (32767#32).slt w = true <;> simp only [h1, h2, if_true, if_false, Bool.false_eq_true]
  all_goals
    refine BitVec.eq_of_toInt_eq ?_
    rw [BitVec.slt_iff_toInt_lt] at h1 h2
    omega

section
variable (x : FVec Ideal S16x512x512 .f32) (t : IVec S16x512x512 32)

/-- The scores and the labels, flat. -/
def flatScores : FVec Ideal S4194304 .f32 := shapeCast S4194304 x shapeCasts_S16x512x512_S4194304
/-- The labels, flat. -/
def flatLabels : IVec S4194304 32 := shapeCast S4194304 t shapeCasts_S16x512x512_S4194304

/-- A share is the logistic function at its element's bin. -/
theorem shares_real (k : Fin 4194304) : shares (F := Ideal) x (ix1 k) = ((share (binOf (flatScores x) k) : ℝ) : EReal) := by
  have hq : ∀ i, ((FloatOps.sitofp .f32 (quant (F := Ideal) x i) : Ideal .f32) : EReal) = ((bin (F := Ideal) (x i) : ℝ) : EReal) := fun i => by
    have e : (quant (F := Ideal) x i).toNat = bin (F := Ideal) (x i) := congrArg BitVec.toNat (clamp_swap _)
    show (((quant (F := Ideal) x i).toInt : ℝ) : EReal) = _
    rw [BitVec.toInt_eq_toNat_of_lt (by rw [e]; have := bin_lt (F := Ideal) (x i); omega), e]
    simp
  unfold binOf
  rw [pos_flat]
  show Ideal.div (FloatOps.ofBits .f32 0x3F800000#32 : Ideal .f32) ((FloatOps.ofBits .f32 0x3F800000#32 : Ideal .f32)
    + Ideal.exp (-((FloatOps.ofBits .f32 0xC1400000#32 : Ideal .f32) + ((FloatOps.sitofp .f32 (quant (F := Ideal) x (Shape.reshapeEquiv shapeCasts_S16x512x512_S4194304 (ix1 k))) : Ideal .f32)
      + (FloatOps.ofBits .f32 0x3F000000#32 : Ideal .f32)) * (FloatOps.ofBits .f32 0x3A400000#32 : Ideal .f32)))) = _
  rw [hq, bits_one, bits_low, bits_half, bits_width, ← EReal.coe_add, ← EReal.coe_mul, ← EReal.coe_add, ← EReal.coe_neg, Ideal.exp_coe, ← EReal.coe_add, div_real]
  · rfl
  · positivity

/-- A share is above zero. -/
theorem share_pos (b : ℕ) : 0 < share b := by unfold share; positivity

/-- A share is below one. -/
theorem share_lt_one (b : ℕ) : share b < 1 := by
  unfold share
  rw [div_lt_one (by positivity)]
  linarith [Real.exp_pos (-(-12 + ((b : ℝ) + 1 / 2) * (3 / 4096)))]

/-- Shares rise with the bin. -/
theorem share_strictMono : StrictMono share := fun a b h => by
  unfold share
  refine one_div_lt_one_div_of_lt (by positivity) ?_
  have hab : (a : ℝ) < b := Nat.cast_lt.mpr h
  have := Real.exp_lt_exp.mpr (show -(-12 + ((b : ℝ) + 1 / 2) * (3 / 4096)) < -(-12 + ((a : ℝ) + 1 / 2) * (3 / 4096)) by linarith)
  linarith

/-- The sort's comparison, among the extended reals: strictly below. -/
theorem comparator_real (l r : EReal × BitVec 32) : comparator_f32_i32_d0 (F := Ideal) l r = BitVec.ofBool (decide (l.1 < r.1)) := by
  have h : ∀ z : EReal, (Scalar.select (FloatOps.cmpf (F := Ideal) (φ := .f32) .une z z) (FloatOps.ofBits .f32 0x7FC00000#32 : Ideal .f32)
      (Scalar.select (FloatOps.cmpf (F := Ideal) (φ := .f32) .oeq z (FloatOps.ofBits .f32 0x00000000#32 : Ideal .f32)) (FloatOps.ofBits .f32 0x00000000#32 : Ideal .f32) z) : EReal) = z := fun z => by
    show (if BitVec.ofBool (decide (z ≠ z)) = 1#1 then _ else if BitVec.ofBool (decide (z = (FloatOps.ofBits .f32 0x00000000#32 : Ideal .f32))) = 1#1
      then (FloatOps.ofBits .f32 0x00000000#32 : Ideal .f32) else z : EReal) = z
    rw [if_neg (by simp)]
    split
    · rename_i e
      cases hd : decide (z = (FloatOps.ofBits .f32 0x00000000#32 : Ideal .f32)) with
      | true => exact (of_decide_eq_true hd).symm
      | false => rw [hd] at e; exact absurd e (by decide)
    · rfl
  show BitVec.ofBool (decide ((Scalar.select _ _ (Scalar.select _ _ _) : EReal) < (Scalar.select _ _ (Scalar.select _ _ _) : EReal))) = _
  rw [h l.1, h r.1]

/-- What an element's error is. -/
def errorOf (k : Fin 4194304) : ℝ := if isOne (flatLabels t) k then 1 - share (binOf (flatScores x) k) else 1 + share (binOf (flatScores x) k)

variable (ht : Labels01 (F := Ideal) (flatLabels t))
include ht

/-- A label as a number. -/
theorem label_real (k : Fin 4194304) : ((FloatOps.sitofp .f32 (flatLabels t (ix1 k)) : Ideal .f32) : EReal) = (((if isOne (flatLabels t) k then 1 else 0) : ℝ) : EReal) := by
  show (((flatLabels t (ix1 k)).toInt : ℝ) : EReal) = _
  have hk : isOne (flatLabels t) k ↔ flatLabels t (ix1 k) = 1#32 := by unfold isOne; rw [pos_flat]
  rcases ht (ix1 k) with e | e
  · rw [if_neg fun h => absurd (e.symm.trans (hk.mp h)) (by decide), e]; simp
  · rw [if_pos (hk.mpr e), e]; simp

/-- The errors. -/
theorem errors_real (k : Fin 4194304) : errors (F := Ideal) x t (ix1 k) = ((errorOf x t k : ℝ) : EReal) := by
  show ((FloatOps.ofBits .f32 0x3F800000#32 : Ideal .f32) - shares (F := Ideal) x (ix1 k)
    * ((FloatOps.ofBits .f32 0x40000000#32 : Ideal .f32) * (FloatOps.sitofp .f32 (flatLabels t (ix1 k)) : Ideal .f32) - (FloatOps.ofBits .f32 0x3F800000#32 : Ideal .f32)) : EReal) = _
  rw [shares_real, label_real t ht, bits_one, bits_two, ← EReal.coe_mul, ← EReal.coe_sub, ← EReal.coe_mul, ← EReal.coe_sub]
  refine congrArg _ ?_
  unfold errorOf
  split <;> ring

omit ht in
/-- No error is negative. -/
theorem errorOf_pos (k : Fin 4194304) : 0 ≤ errorOf x t k := by
  unfold errorOf
  have h0 := share_pos (binOf (flatScores x) k)
  have h1 := share_lt_one (binOf (flatScores x) k)
  split <;> linarith

/-- The sort finds an order in which no error is above an earlier one, and the positions it carries name that order. -/
theorem order_real : ∃ σ : Fin 4194304 → Fin 4194304, Function.Bijective σ ∧ (∀ i j, i ≤ j → errorOf x t (σ j) ≤ errorOf x t (σ i))
    ∧ ∀ k, order (F := Ideal) x t (ix1 k) = BitVec.ofNat 32 (σ k).val :=
  sort_real (comparator_f32_i32_d0 (F := Ideal)) comparator_real (Host.negf (errors (F := Ideal) x t)) (errorOf x t)
    (fun k => (congrArg (fun z : EReal => -z) (errors_real x t ht k)).trans (EReal.coe_neg _).symm) (iotaInDim S4194304 32 0)

omit ht in
/-- A position that is one of the array's is its own start index. -/
theorem starts_apply {k p : Fin 4194304} (h : order (F := Ideal) x t (ix1 k) = BitVec.ofNat 32 p.val) :
    starts (F := Ideal) x t (ix2 k 0) = BitVec.ofNat 32 p.val := by
  refine (broadcastInDim_apply _ _ _ _ (ix1 k) fun a => ?_).trans ?_
  · match a with
    | ⟨0, _⟩ => exact (if_neg (show ¬ (4194304 : ℕ) = 1 by norm_num)).symm
  · have e : ∀ (a b c d : IVec S4194304 32) (j : S4194304.Idx), select (cmpi .slt a b) c d j = if IntOp.cmpi .slt (a j) (b j) = 1#1 then c j else d j :=
      fun _ _ _ _ _ => rfl
    refine (e _ _ _ _ _).trans ?_
    rw [h, if_neg]
    have hp := p.isLt
    have hs : (BitVec.ofNat 32 p.val).slt 0#32 = false := by
      rw [BitVec.slt_eq_decide, BitVec.toInt_eq_toNat_of_lt (by rw [BitVec.toNat_ofNat]; omega)]
      exact decide_eq_false (not_lt.mpr (Int.natCast_nonneg _))
    show ¬ BitVec.ofBool ((BitVec.ofNat 32 p.val).slt 0#32) = 1#1
    rw [hs]
    decide

variable {σ : Fin 4194304 → Fin 4194304} (hσ : ∀ k, order (F := Ideal) x t (ix1 k) = BitVec.ofNat 32 (σ k).val)
include hσ

/-- The errors in that order. -/
theorem sortedErrors_real (k : Fin 4194304) : sortedErrors (F := Ideal) x t (ix1 k) = ((errorOf x t (σ k) : ℝ) : EReal) :=
  (take_apply (by norm_num) _ (errors (F := Ideal) x t) _ k (σ k) (starts_apply x t (hσ k))).trans (errors_real x t ht (σ k))

/-- The labels in that order. -/
theorem sortedLabels_real (k : Fin 4194304) : sortedLabels (F := Ideal) x t (ix1 k) = (((if isOne (flatLabels t) (σ k) then 1 else 0) : ℝ) : EReal) :=
  (congrArg (fun b : BitVec 32 => ((FloatOps.sitofp .f32 b : Ideal .f32) : EReal))
    (take_apply (by norm_num) _ (flatLabels t) _ k (σ k) (starts_apply x t (hσ k)))).trans (label_real t ht (σ k))
end

/-! ## The Jaccard differences -/

section
variable (L : Fin 4194304 → Prop) [DecidablePred L] (y : FVec Ideal S4194304 .f32) (hy : ∀ k, y (ix1 k) = (((if L k then 1 else 0) : ℝ) : EReal))
include hy

/-- The labels' sum, at any position. -/
theorem allOnes_real (k : Fin 4194304) : allOnes y (ix1 k) = ((num L : ℝ) : EReal) :=
  hostTotal_real y (fun k => if L k then 1 else 0) hy (constant S_ .f32 0x00000000#32) (fun _ => bits_zero) reducesTo_S4194304_S_d0 h_S_ _

omit [DecidablePred L] hy in
/-- The running sum of reals. -/
theorem running_real (y : FVec Ideal S4194304 .f32) (g : Fin 4194304 → ℝ) (hg : ∀ k, y (ix1 k) = ((g k : ℝ) : EReal)) (k : Fin 4194304) :
    running y (ix1 k) = ((∑ j ∈ univ.filter (· ≤ k), g j : ℝ) : EReal) :=
  hostSum_real (by norm_num) y g hg _ (fun _ => bits_zero) _ h_S_ k

omit hy in
/-- Some label is one, or every prefix holds a zero. -/
theorem union_pos (k : Fin 4194304) : num L + zeros L k ≠ 0 := by
  have h1 : (if L k then (1 : ℝ) else 0) ≤ num L :=
    Finset.single_le_sum (f := fun k => if L k then (1 : ℝ) else 0) (fun i _ => by split <;> norm_num) (Finset.mem_univ k)
  have h2 : (1 - if L k then (1 : ℝ) else 0) ≤ zeros L k :=
    Finset.single_le_sum (f := fun k => 1 - if L k then (1 : ℝ) else 0) (fun i _ => by split <;> norm_num)
      (Finset.mem_filter.mpr ⟨Finset.mem_univ k, le_refl k⟩)
  intro h
  linarith

/-- The Jaccard terms. -/
theorem jaccard_real (k : Fin 4194304) : jaccard y (ix1 k) = ((jacAt L k : ℝ) : EReal) := by
  have e : ∀ (a b c d : FVec Ideal S4194304 .f32) (j : S4194304.Idx), (subf (broadcastInDim S4194304 ![] bcast_S_S4194304 (constant S_ .f32 0x3F800000#32))
      (Host.divf (subf a b) (addf c d)) j : EReal) = (FloatOps.ofBits .f32 0x3F800000#32 : Ideal .f32) - Ideal.div (a j - b j) (c j + d j) := fun _ _ _ _ _ => rfl
  refine (e (allOnes y) (running y) (allOnes y) (running (subf (broadcastInDim S4194304 ![] bcast_S_S4194304 (constant S_ .f32 0x3F800000#32)) y)) (ix1 k)).trans ?_
  rw [allOnes_real L y hy, running_real y _ hy, running_real _ (fun j => 1 - if L j then (1 : ℝ) else 0) fun j => ?_, bits_one,
    ← EReal.coe_sub, ← EReal.coe_add]
  · refine (congrArg (fun z : EReal => ((1 : ℝ) : EReal) - z) (div_real (num L - ones L k) (union_pos L k))).trans ?_
    rw [← EReal.coe_sub]
    rfl
  · show ((FloatOps.ofBits .f32 0x3F800000#32 : Ideal .f32) - y (ix1 j) : EReal) = _
    rw [hy, bits_one, ← EReal.coe_sub]

omit hy in
/-- The differences of the Jaccard terms. -/
theorem differences_real (z : FVec Ideal S4194304 .f32) (hz : ∀ k, z (ix1 k) = ((jacAt L k : ℝ) : EReal)) (k : Fin 4194304) :
    differences z (ix1 k) = ((gradAt L k : ℝ) : EReal) := by
  unfold differences gradAt
  by_cases h : k.val = 0
  · rw [dif_pos h, ← hz]
    refine (concatenate_pair_apply_left (s₁ := S1) (s₂ := S4194303) 0 _ _ _ (ix1 k) rfl (ix1 (0 : Fin 1)) fun b => ?_).trans ?_
    · match b with
      | ⟨0, _⟩ => exact h.symm
    · refine extractStridedSlice_apply _ _ _ _ (ix1 k) fun a => ?_
      match a with
      | ⟨0, _⟩ => exact h
  · have hk := k.isLt
    rw [dif_neg h]
    refine (concatenate_pair_apply_right (s₁ := S1) (s₂ := S4194303) 0 _ _ _ (ix1 k) rfl rfl (ix1 (⟨k.val - 1, by omega⟩ : Fin 4194303)) (fun b hb => absurd (Subsingleton.elim _ _) hb) ?_).trans ?_
    · show k.val - 1 + 1 = k.val
      omega
    · rw [EReal.coe_sub, ← hz, ← hz]
      refine congrArg₂ (fun a b : EReal => a - b) ?_ ?_
      · refine extractStridedSlice_apply _ _ _ _ (ix1 k) fun a => ?_
        match a with
        | ⟨0, _⟩ => show k.val = 1 + (k.val - 1); omega
      · refine extractStridedSlice_apply _ _ _ _ (ix1 _) fun a => ?_
        match a with
        | ⟨0, _⟩ => show k.val - 1 = 0 + (k.val - 1); omega
end

/-! ## The loss -/

/-- The reference's loss is the binned loss of the scores' and labels' counts. -/
theorem refLoss_real (x : FVec Ideal S16x512x512 .f32) (t : IVec S16x512x512 32) (ht : Labels01 (F := Ideal) (flatLabels t)) (i : S_.Idx) :
    refLoss (F := Ideal) x t i = ((binLoss 32768 4194304 (cnt0 (flatScores x) (flatLabels t)) (cnt1 (flatScores x) (flatLabels t)) share : ℝ) : EReal) := by
  obtain ⟨σ, hb, hs, hp⟩ := order_real x t ht
  refine Eq.trans ?_ (congrArg _ (sorted_loss 32768 (isOne (flatLabels t)) (binOf (flatScores x)) (fun _ => bin_lt _) share share_strictMono share_pos
    share_lt_one (errorOf x t) (fun _ => rfl) σ hb hs))
  refine hostTotal_real _ (fun k => errorOf x t (σ k) * gradAt (fun k => isOne (flatLabels t) (σ k)) k) (fun k => ?_)
    (constant S_ .f32 0x00000000#32) (fun _ => bits_zero) reducesTo_S4194304_S_d0 h_S_ i
  show (max (sortedErrors (F := Ideal) x t (ix1 k)) (FloatOps.ofBits .f32 0x00000000#32 : Ideal .f32) * differences (jaccard (sortedLabels (F := Ideal) x t)) (ix1 k) : EReal) = _
  rw [sortedErrors_real x t ht hp, bits_zero, max_eq_left (EReal.coe_le_coe_iff.mpr (errorOf_pos x t _)),
    differences_real (fun k => isOne (flatLabels t) (σ k)) _ (jaccard_real _ _ (sortedLabels_real x t ht hp)), ← EReal.coe_mul]

end Cert.Proof.Lovasz
-- ==== Proof.Value.lean ====
/-
  The value claim: over the extended reals the kernel and the reference leave the same loss.
-/
module

public import proofs.«01_k».proof.Proof.Frames
public import proofs.«01_k».proof.Proof.RefLoss

@[expose] public section

noncomputable section

namespace Cert.Proof.Lovasz

open Idealize.ShloMosaic Idealize.ShloMosaic.TcCoe Idealize.SL.Sem

/-- The reference's run from labels of zero and one: its frame holds without asking that of them. -/
theorem frame_ReferenceIdeal_pre : Cert.quiescent_ReferenceIdeal_pre_pre := fun m ρ _ => frame_ReferenceIdeal m ρ trivial

/-- A result of the kernel is the reference's loss of the same arguments. -/
theorem result_eq {x : FVec Ideal Cert.ReferenceIdeal.S16x512x512 .f32} {t : IVec Cert.ReferenceIdeal.S16x512x512 32} (ht : Labels01 (F := Ideal) (flatLabels t))
    {h : Vec Ideal Cert.KernelIdeal.S32x65536 .f32} (hh : ∀ w, RowOK (flatScores x) (flatLabels t) w h) :
    result (F := Ideal) h = refLoss (F := Ideal) x t :=
  funext fun i => (result_real ht hh i).trans (refLoss_real x t ht i).symm

/-- From the same scores, and labels of zero and one, the kernel and the reference end with one loss. -/
theorem algebraic : Cert.algebraic_KernelIdeal_ReferenceIdeal := by
  intro m g m' g' hp hm
  refine ⟨fun c => refLoss (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r hr c => ?_) (run_main m g (labelsOK_of_pre m hp))
    obtain ⟨h0, h1, h, hh, hv⟩ := hr.1 c
    exact ⟨hv.trans (result_eq (labelsOK_of_pre m hp c) hh), h0, h1⟩
  · refine (θ_run Cert.ReferenceIdeal.defs _ _).mono (fun r hr c => ?_) (Cert.ReferenceIdeal.Value.run (F := Ideal) m' g')
    refine ⟨(hr c).1.trans ((res_eq m' c).trans ?_), (hr c).2⟩
    exact congrArg₂ (fun a b => refLoss (F := Ideal) a b) (hm c).1 (hm c).2

end Cert.Proof.Lovasz
-- ==== Proof.lean ====
/- The certificate: the frames of the kernel, of its idealization and of the reference (Proof/Frames.lean), and the
   equality of the kernel's loss and the reference's (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_pre
public import proofs.«01_k».proof.Proof.Gen.ReferenceIdeal.Run
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

/-- The certificate. -/
theorem claim : Cert.Claim := ⟨Cert.Kernel.Gen.facts, Cert.KernelIdeal.Gen.facts, Cert.ReferenceIdeal.Gen.facts, Cert.Pre_pre.Gen.facts,
  Lovasz.frame_Kernel, Lovasz.frame_KernelIdeal, Lovasz.frame_ReferenceIdeal, Lovasz.frame_ReferenceIdeal_pre, trivial, Lovasz.algebraic⟩

end Cert.Proof

end
